-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_are_normal [hPre_scales_are_normal : Cert.Pre_scales_are_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_are_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_normal [hPre_scales_are_normal : Cert.Pre_scales_are_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_are_normal [hKernelIdeal : Cert.KernelIdeal.Facts] [hPre_scales_are_normal : Cert.Pre_scales_are_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_are_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_are_normal [hReferenceIdeal : Cert.ReferenceIdeal.Facts] [hPre_scales_are_normal : Cert.Pre_scales_are_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_are_normal [hKernelIdeal : Cert.KernelIdeal.Facts] [hReferenceIdeal : Cert.ReferenceIdeal.Facts] [hPre_scales_are_normal : Cert.Pre_scales_are_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_are_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_are_normal : Cert.Pre_scales_are_normal.Facts),
    quiescent_Kernel (hKernel := hKernel)
    ∧ quiescent_KernelIdeal (hKernelIdeal := hKernelIdeal)
    ∧ quiescent_KernelIdeal_pre_scales_are_normal (hKernelIdeal := hKernelIdeal) (hPre_scales_are_normal := hPre_scales_are_normal)
    ∧ quiescent_ReferenceIdeal (hReferenceIdeal := hReferenceIdeal)
    ∧ quiescent_ReferenceIdeal_pre_scales_are_normal (hReferenceIdeal := hReferenceIdeal) (hPre_scales_are_normal := hPre_scales_are_normal)
    ∧ preserves_Kernel_KernelIdeal
    ∧ algebraic_KernelIdeal_ReferenceIdeal_pre_scales_are_normal (hKernelIdeal := hKernelIdeal) (hReferenceIdeal := hReferenceIdeal) (hPre_scales_are_normal := hPre_scales_are_normal)
-- ==== Pre_scales_are_normal.lean ====
abbrev S32x8192x1024 : Shape := ⟨3, ![32, 8192, 1024]⟩
abbrev S32x1024x1024 : Shape := ⟨3, ![32, 1024, 1024]⟩
abbrev S32x8x8 : Shape := ⟨3, ![32, 8, 8]⟩
abbrev S32x8192x8x128 : Shape := ⟨4, ![32, 8192, 8, 128]⟩
abbrev S_ : Shape := ⟨0, ![]⟩
abbrev S32x8192x8 : Shape := ⟨3, ![32, 8192, 8]⟩

class Facts : Prop where
  bitsLt_bf16_f32 : FTy.bits .bf16 < FTy.bits .f32
  shapeCasts_S32x8192x1024_S32x8192x8x128 : S32x8192x1024.ShapeCasts S32x8192x8x128
  reducesTo_S32x8192x8x128_S32x8192x8_d3 : S32x8192x8x128.ReducesTo [3] S32x8192x8
  h_S_ : 0 < S_.numel
  bcast_S_S32x8192x8 : S_.BroadcastsInDim S32x8192x8 (![] : Fin 0 → Fin S32x8192x8.rank)
  reducesTo_S32x8192x8_S_d0_1_2 : S32x8192x8.ReducesTo [0, 1, 2] S_

variable [Facts]

def fn {F : FTy → Type} [FloatOps F] (main_arg0 : FVec F S32x8192x1024 .bf16) (main_arg1 : FVec F S32x1024x1024 .fp8e4m3) (main_arg2 : FVec F S32x8x8 .f32) : IVec S_ 1 :=
  let main_v0 : FVec F S32x8192x1024 .f32 := (extf .f32 · bitsLt_bf16_f32) main_arg0
  let main_v1 : FVec F S32x8192x8x128 .f32 := shapeCast S32x8192x8x128 main_v0 shapeCasts_S32x8192x1024_S32x8192x8x128
  let main_v2 : FVec F S32x8192x8x128 .f32 := Host.absf main_v1
  let main_cst : FVec F S_ .f32 := constant S_ .f32 0xFF800000#32
  let main_v3 : FVec F S32x8192x8 .f32 := (fun x v => Host.reduce FloatOps.maximumf x v reducesTo_S32x8192x8x128_S32x8192x8_d3 h_S_) main_v2 main_cst
  let main_cst_0 : FVec F S_ .f32 := constant S_ .f32 0x3B124925#32
  let main_v4 : FVec F S32x8192x8 .f32 := broadcastInDim S32x8192x8 ![] bcast_S_S32x8192x8 main_cst_0
  let main_v5 : FVec F S32x8192x8 .f32 := mulf main_v3 main_v4
  let main_cst_1 : FVec F S_ .f32 := constant S_ .f32 0x00000000#32
  let main_v6 : FVec F S32x8192x8 .f32 := broadcastInDim S32x8192x8 ![] bcast_S_S32x8192x8 main_cst_1
  let main_v7 : IVec S32x8192x8 1 := cmpf .oeq main_v5 main_v6
  let main_cst_2 : FVec F S_ .f32 := constant S_ .f32 0x00800000#32
  let main_v8 : FVec F S32x8192x8 .f32 := broadcastInDim S32x8192x8 ![] bcast_S_S32x8192x8 main_cst_2
  let main_v9 : IVec S32x8192x8 1 := cmpf .oge main_v5 main_v8
  let main_cst_3 : FVec F S_ .f32 := constant S_ .f32 0x7E800000#32
  let main_v10 : FVec F S32x8192x8 .f32 := broadcastInDim S32x8192x8 ![] bcast_S_S32x8192x8 main_cst_3
  let main_v11 : IVec S32x8192x8 1 := cmpf .olt main_v5 main_v10
  let main_v12 : IVec S32x8192x8 1 := andi main_v9 main_v11
  let main_v13 : IVec S32x8192x8 1 := ori main_v7 main_v12
  let main_c : IVec S_ 1 := constantI S_ 1 1#1
  let main_v14 : IVec S_ 1 := (fun x v => Host.reduce IntOp.andi x v reducesTo_S32x8192x8_S_d0_1_2 h_S_) main_v13 main_c
  main_v14
-- ==== Kernel.lean ====
abbrev S32x8192x1024 : Shape := ⟨3, ![32, 8192, 1024]⟩
abbrev S32x1024x1024 : Shape := ⟨3, ![32, 1024, 1024]⟩
abbrev S32x8x8 : Shape := ⟨3, ![32, 8, 8]⟩
abbrev S8x8x32 : Shape := ⟨3, ![8, 8, 32]⟩
abbrev S32x8x8192 : Shape := ⟨3, ![32, 8, 8192]⟩
abbrev S1x1024x1024 : Shape := ⟨3, ![1, 1024, 1024]⟩
abbrev S1x8x1024 : Shape := ⟨3, ![1, 8, 1024]⟩
abbrev S1024x1024 : Shape := ⟨2, ![1024, 1024]⟩
abbrev S1x1x1 : Shape := ⟨3, ![1, 1, 1]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x8 : Shape := ⟨2, ![256, 8]⟩
abbrev S8x256 : Shape := ⟨2, ![8, 256]⟩
abbrev S1x8x256 : Shape := ⟨3, ![1, 8, 256]⟩
abbrev S256x1024 : Shape := ⟨2, ![256, 1024]⟩
abbrev S1x256x1024 : Shape := ⟨3, ![1, 256, 1024]⟩
abbrev S32x8192x8 : Shape := ⟨3, ![32, 8192, 8]⟩

abbrev nBuf : Space → Nat
  | .hbm => 8
  | .vmem => 12
  | .smem => 1
  | _ => 0

abbrev bufTy : (tb : Table) → Fin (tcTables nBuf tb) → BufTy
  | .hbm, ⟨0, _⟩ => ⟨S32x8192x1024, .bf16⟩
  | .hbm, ⟨1, _⟩ => ⟨S32x1024x1024, .fp8e4m3⟩
  | .hbm, ⟨2, _⟩ => ⟨S32x8x8, .f32⟩
  | .hbm, ⟨3, _⟩ => ⟨S8x8x32, .f32⟩
  | .hbm, ⟨4, _⟩ => ⟨S32x8192x1024, .bf16⟩
  | .hbm, ⟨5, _⟩ => ⟨S32x8192x1024, .fp8e4m3⟩
  | .hbm, ⟨6, _⟩ => ⟨S32x8x8192, .f32⟩
  | .hbm, ⟨7, _⟩ => ⟨S32x8192x8, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .fp8e4m3⟩
  | .local _ .vmem, ⟨3, _⟩ => ⟨S1x1024x1024, .fp8e4m3⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .fp8e4m3⟩
  | .local _ .vmem, ⟨7, _⟩ => ⟨S1x1024x1024, .fp8e4m3⟩
  | .local _ .vmem, ⟨8, _⟩ => ⟨S1x8x1024, .f32⟩
  | .local _ .vmem, ⟨9, _⟩ => ⟨S1x8x1024, .f32⟩
  | .local _ .vmem, ⟨10, _⟩ => ⟨S1024x1024, .bf16⟩
  | .local _ .vmem, ⟨11, _⟩ => ⟨S1024x1024, .bf16⟩
  | .local _ .smem, ⟨0, _⟩ => ⟨S8x8x32, .f32⟩
  | _, _ => ⟨S32x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let c0_735 : Index := 0#32
  let c0_736 : Index := 0#32
  let arg0 : BitVec 32 := BitVec.ofNat 32 (i 0).val
  let v1779 : Index := Scalar.indexCast arg0
  ![0, 0, v1779.toNat]
def k0_off2 (i : grid0.Coords) : Fin 3 → Nat :=
  let c0_742 : Index := 0#32
  let c1 : Index := 1#32
  let arg0 : BitVec 32 := BitVec.ofNat 32 (i 0).val
  let v1790 : Index := Scalar.indexCast arg0
  ![0, 1, v1790.toNat]
def k0_off3 (i : grid0.Coords) : Fin 3 → Nat :=
  let c0_748 : Index := 0#32
  let c2 : Index := 2#32
  let arg0 : BitVec 32 := BitVec.ofNat 32 (i 0).val
  let v1801 : Index := Scalar.indexCast arg0
  ![0, 2, v1801.toNat]
def k0_off4 (i : grid0.Coords) : Fin 3 → Nat :=
  let c0_754 : Index := 0#32
  let c3 : Index := 3#32
  let arg0 : BitVec 32 := BitVec.ofNat 32 (i 0).val
  let v1812 : Index := Scalar.indexCast arg0
  ![0, 3, v1812.toNat]
def k0_off5 (i : grid0.Coords) : Fin 3 → Nat :=
  let c0_760 : Index := 0#32
  let c4 : Index := 4#32
  let arg0 : BitVec 32 := BitVec.ofNat 32 (i 0).val
  let v1823 : Index := Scalar.indexCast arg0
  ![0, 4, v1823.toNat]
def k0_off6 (i : grid0.Coords) : Fin 3 → Nat :=
  let c0_766 : Index := 0#32
  let c5 : Index := 5#32
  let arg0 : BitVec 32 := BitVec.ofNat 32 (i 0).val
  let v1834 : Index := Scalar.indexCast arg0
  ![0, 5, v1834.toNat]
def k0_off7 (i : grid0.Coords) : Fin 3 → Nat :=
  let c0_772 : Index := 0#32
  let c6 : Index := 6#32
  let arg0 : BitVec 32 := BitVec.ofNat 32 (i 0).val
  let v1845 : Index := Scalar.indexCast arg0
  ![0, 6, v1845.toNat]
def k0_off8 (i : grid0.Coords) : Fin 3 → Nat :=
  let c0_778 : Index := 0#32
  let c7 : Index := 7#32
  let arg0 : BitVec 32 := BitVec.ofNat 32 (i 0).val
  let v1856 : Index := Scalar.indexCast arg0
  ![0, 7, v1856.toNat]
def k0_off9 (i : grid0.Coords) : Fin 3 → Nat :=
  let c1_784 : Index := 1#32
  let c0_785 : Index := 0#32
  let arg0 : BitVec 32 := BitVec.ofNat 32 (i 0).val
  let v1867 : Index := Scalar.indexCast arg0
  ![1, 0, v1867.toNat]
def k0_off10 (i : grid0.Coords) : Fin 3 → Nat :=
  let c1_791 : Index := 1#32
  let c1_792 : Index := 1#32
  let arg0 : BitVec 32 := BitVec.ofNat 32 (i 0).val
  let v1878 : Index := Scalar.indexCast arg0
  ![1, 1, v1878.toNat]
def k0_off11 (i : grid0.Coords) : Fin 3 → Nat :=
  let c1_798 : Index := 1#32
  let c2_799 : Index := 2#32
  let arg0 : BitVec 32 := BitVec.ofNat 32 (i 0).val
  let v1889 : Index := Scalar.indexCast arg0
  ![1, 2, v1889.toNat]
def k0_off12 (i : grid0.Coords) : Fin 3 → Nat :=
  let c1_805 : Index := 1#32
  let c3_806 : Index := 3#32
  let arg0 : BitVec 32 := BitVec.ofNat 32 (i 0).val
  let v1900 : Index := Scalar.indexCast arg0
  ![1, 3, v1900.toNat]
def k0_off13 (i : grid0.Coords) : Fin 3 → Nat :=
  let c1_812 : Index := 1#32
  let c4_813 : Index := 4#32
  let arg0 : BitVec 32 := BitVec.ofNat 32 (i 0).val
  let v1911 : Index := Scalar.indexCast arg0
  ![1, 4, v1911.toNat]
def k0_off14 (i : grid0.Coords) : Fin 3 → Nat :=
  let c1_819 : Index := 1#32
  let c5_820 : Index := 5#32
  let arg0 : BitVec 32 := BitVec.ofNat 32 (i 0).val
  let v1922 : Index := Scalar.indexCast arg0
  ![1, 5, v1922.toNat]
def k0_off15 (i : grid0.Coords) : Fin 3 → Nat :=
  let c1_826 : Index := 1#32
  let c6_827 : Index := 6#32
  let arg0 : BitVec 32 := BitVec.ofNat 32 (i 0).val
  let v1933 : Index := Scalar.indexCast arg0
  ![1, 6, v1933.toNat]
def k0_off16 (i : grid0.Coords) : Fin 3 → Nat :=
  let c1_833 : Index := 1#32
  let c7_834 : Index := 7#32
  let arg0 : BitVec 32 := BitVec.ofNat 32 (i 0).val
  let v1944 : Index := Scalar.indexCast arg0
  ![1, 7, v1944.toNat]
def k0_off17 (i : grid0.Coords) : Fin 3 → Nat :=
  let c2_840 : Index := 2#32
  let c0_841 : Index := 0#32
  let arg0 : BitVec 32 := BitVec.ofNat 32 (i 0).val
  let v1955 : Index := Scalar.indexCast arg0
  ![2, 0, v1955.toNat]
def k0_off18 (i : grid0.Coords) : Fin 3 → Nat :=
  let c2_847 : Index := 2#32
  let c1_848 : Index := 1#32
  let arg0 : BitVec 32 := BitVec.ofNat 32 (i 0).val
  let v1966 : Index := Scalar.indexCast arg0
  ![2, 1, v1966.toNat]
def k0_off19 (i : grid0.Coords) : Fin 3 → Nat :=
  let c2_854 : Index := 2#32
  let c2_855 : Index := 2#32
  let arg0 : BitVec 32 := BitVec.ofNat 32 (i 0).val
  let v1977 : Index := Scalar.indexCast arg0
  ![2, 2, v1977.toNat]
def k0_off20 (i : grid0.Coords) : Fin 3 → Nat :=
  let c2_861 : Index := 2#32
  let c3_862 : Index := 3#32
  let arg0 : BitVec 32 := BitVec.ofNat 32 (i 0).val
  let v1988 : Index := Scalar.indexCast arg0
  ![2, 3, v1988.toNat]
def k0_off21 (i : grid0.Coords) : Fin 3 → Nat :=
  let c2_868 : Index := 2#32
  let c4_869 : Index := 4#32
  let arg0 : BitVec 32 := BitVec.ofNat 32 (i 0).val
  let v1999 : Index := Scalar.indexCast arg0
  ![2, 4, v1999.toNat]
def k0_off22 (i : grid0.Coords) : Fin 3 → Nat :=
  let c2_875 : Index := 2#32
  let c5_876 : Index := 5#32
  let arg0 : BitVec 32 := BitVec.ofNat 32 (i 0).val
  let v2010 : Index := Scalar.indexCast arg0
  ![2, 5, v2010.toNat]
def k0_off23 (i : grid0.Coords) : Fin 3 → Nat :=
  let c2_882 : Index := 2#32
  let c6_883 : Index := 6#32
  let arg0 : BitVec 32 := BitVec.ofNat 32 (i 0).val
  let v2021 : Index := Scalar.indexCast arg0
  ![2, 6, v2021.toNat]
def k0_off24 (i : grid0.Coords) : Fin 3 → Nat :=
  let c2_889 : Index := 2#32
  let c7_890 : Index := 7#32
  let arg0 : BitVec 32 := BitVec.ofNat 32 (i 0).val
  let v2032 : Index := Scalar.indexCast arg0
  ![2, 7, v2032.toNat]
def k0_off25 (i : grid0.Coords) : Fin 3 → Nat :=
  let c3_896 : Index := 3#32
  let c0_897 : Index := 0#32
  let arg0 : BitVec 32 := BitVec.ofNat 32 (i 0).val
  let v2043 : Index := Scalar.indexCast arg0
  ![3, 0, v2043.toNat]
def k0_off26 (i : grid0.Coords) : Fin 3 → Nat :=
  let c3_903 : Index := 3#32
  let c1_904 : Index := 1#32
  let arg0 : BitVec 32 := BitVec.ofNat 32 (i 0).val
  let v2054 : Index := Scalar.indexCast arg0
  ![3, 1, v2054.toNat]
def k0_off27 (i : grid0.Coords) : Fin 3 → Nat :=
  let c3_910 : Index := 3#32
  let c2_911 : Index := 2#32
  let arg0 : BitVec 32 := BitVec.ofNat 32 (i 0).val
  let v2065 : Index := Scalar.indexCast arg0
  ![3, 2, v2065.toNat]
def k0_off28 (i : grid0.Coords) : Fin 3 → Nat :=
  let c3_917 : Index := 3#32
  let c3_918 : Index := 3#32
  let arg0 : BitVec 32 := BitVec.ofNat 32 (i 0).val
  let v2076 : Index := Scalar.indexCast arg0
  ![3, 3, v2076.toNat]
def k0_off29 (i : grid0.Coords) : Fin 3 → Nat :=
  let c3_924 : Index := 3#32
  let c4_925 : Index := 4#32
  let arg0 : BitVec 32 := BitVec.ofNat 32 (i 0).val
  let v2087 : Index := Scalar.indexCast arg0
  ![3, 4, v2087.toNat]
def k0_off30 (i : grid0.Coords) : Fin 3 → Nat :=
  let c3_931 : Index := 3#32
  let c5_932 : Index := 5#32
  let arg0 : BitVec 32 := BitVec.ofNat 32 (i 0).val
  let v2098 : Index := Scalar.indexCast arg0
  ![3, 5, v2098.toNat]
def k0_off31 (i : grid0.Coords) : Fin 3 → Nat :=
  let c3_938 : Index := 3#32
  let c6_939 : Index := 6#32
  let arg0 : BitVec 32 := BitVec.ofNat 32 (i 0).val
  let v2109 : Index := Scalar.indexCast arg0
  ![3, 6, v2109.toNat]
def k0_off32 (i : grid0.Coords) : Fin 3 → Nat :=
  let c3_945 : Index := 3#32
  let c7_946 : Index := 7#32
  let arg0 : BitVec 32 := BitVec.ofNat 32 (i 0).val
  let v2120 : Index := Scalar.indexCast arg0
  ![3, 7, v2120.toNat]
def k0_off33 (i : grid0.Coords) : Fin 3 → Nat :=
  let c4_952 : Index := 4#32
  let c0_953 : Index := 0#32
  let arg0 : BitVec 32 := BitVec.ofNat 32 (i 0).val
  let v2131 : Index := Scalar.indexCast arg0
  ![4, 0, v2131.toNat]
def k0_off34 (i : grid0.Coords) : Fin 3 → Nat :=
  let c4_959 : Index := 4#32
  let c1_960 : Index := 1#32
  let arg0 : BitVec 32 := BitVec.ofNat 32 (i 0).val
  let v2142 : Index := Scalar.indexCast arg0
  ![4, 1, v2142.toNat]
def k0_off35 (i : grid0.Coords) : Fin 3 → Nat :=
  let c4_966 : Index := 4#32
  let c2_967 : Index := 2#32
  let arg0 : BitVec 32 := BitVec.ofNat 32 (i 0).val
  let v2153 : Index := Scalar.indexCast arg0
  ![4, 2, v2153.toNat]
def k0_off36 (i : grid0.Coords) : Fin 3 → Nat :=
  let c4_973 : Index := 4#32
  let c3_974 : Index := 3#32
  let arg0 : BitVec 32 := BitVec.ofNat 32 (i 0).val
  let v2164 : Index := Scalar.indexCast arg0
  ![4, 3, v2164.toNat]
def k0_off37 (i : grid0.Coords) : Fin 3 → Nat :=
  let c4_980 : Index := 4#32
  let c4_981 : Index := 4#32
  let arg0 : BitVec 32 := BitVec.ofNat 32 (i 0).val
  let v2175 : Index := Scalar.indexCast arg0
  ![4, 4, v2175.toNat]
def k0_off38 (i : grid0.Coords) : Fin 3 → Nat :=
  let c4_987 : Index := 4#32
  let c5_988 : Index := 5#32
  let arg0 : BitVec 32 := BitVec.ofNat 32 (i 0).val
  let v2186 : Index := Scalar.indexCast arg0
  ![4, 5, v2186.toNat]
def k0_off39 (i : grid0.Coords) : Fin 3 → Nat :=
  let c4_994 : Index := 4#32
  let c6_995 : Index := 6#32
  let arg0 : BitVec 32 := BitVec.ofNat 32 (i 0).val
  let v2197 : Index := Scalar.indexCast arg0
  ![4, 6, v2197.toNat]
def k0_off40 (i : grid0.Coords) : Fin 3 → Nat :=
  let c4_1001 : Index := 4#32
  let c7_1002 : Index := 7#32
  let arg0 : BitVec 32 := BitVec.ofNat 32 (i 0).val
  let v2208 : Index := Scalar.indexCast arg0
  ![4, 7, v2208.toNat]
def k0_off41 (i : grid0.Coords) : Fin 3 → Nat :=
  let c5_1008 : Index := 5#32
  let c0_1009 : Index := 0#32
  let arg0 : BitVec 32 := BitVec.ofNat 32 (i 0).val
  let v2219 : Index := Scalar.indexCast arg0
  ![5, 0, v2219.toNat]
def k0_off42 (i : grid0.Coords) : Fin 3 → Nat :=
  let c5_1015 : Index := 5#32
  let c1_1016 : Index := 1#32
  let arg0 : BitVec 32 := BitVec.ofNat 32 (i 0).val
  let v2230 : Index := Scalar.indexCast arg0
  ![5, 1, v2230.toNat]
def k0_off43 (i : grid0.Coords) : Fin 3 → Nat :=
  let c5_1022 : Index := 5#32
  let c2_1023 : Index := 2#32
  let arg0 : BitVec 32 := BitVec.ofNat 32 (i 0).val
  let v2241 : Index := Scalar.indexCast arg0
  ![5, 2, v2241.toNat]
def k0_off44 (i : grid0.Coords) : Fin 3 → Nat :=
  let c5_1029 : Index := 5#32
  let c3_1030 : Index := 3#32
  let arg0 : BitVec 32 := BitVec.ofNat 32 (i 0).val
  let v2252 : Index := Scalar.indexCast arg0
  ![5, 3, v2252.toNat]
def k0_off45 (i : grid0.Coords) : Fin 3 → Nat :=
  let c5_1036 : Index := 5#32
  let c4_1037 : Index := 4#32
  let arg0 : BitVec 32 := BitVec.ofNat 32 (i 0).val
  let v2263 : Index := Scalar.indexCast arg0
  ![5, 4, v2263.toNat]
def k0_off46 (i : grid0.Coords) : Fin 3 → Nat :=
  let c5_1043 : Index := 5#32
  let c5_1044 : Index := 5#32
  let arg0 : BitVec 32 := BitVec.ofNat 32 (i 0).val
  let v2274 : Index := Scalar.indexCast arg0
  ![5, 5, v2274.toNat]
def k0_off47 (i : grid0.Coords) : Fin 3 → Nat :=
  let c5_1050 : Index := 5#32
  let c6_1051 : Index := 6#32
  let arg0 : BitVec 32 := BitVec.ofNat 32 (i 0).val
  let v2285 : Index := Scalar.indexCast arg0
  ![5, 6, v2285.toNat]
def k0_off48 (i : grid0.Coords) : Fin 3 → Nat :=
  let c5_1057 : Index := 5#32
  let c7_1058 : Index := 7#32
  let arg0 : BitVec 32 := BitVec.ofNat 32 (i 0).val
  let v2296 : Index := Scalar.indexCast arg0
  ![5, 7, v2296.toNat]
def k0_off49 (i : grid0.Coords) : Fin 3 → Nat :=
  let c6_1064 : Index := 6#32
  let c0_1065 : Index := 0#32
  let arg0 : BitVec 32 := BitVec.ofNat 32 (i 0).val
  let v2307 : Index := Scalar.indexCast arg0
  ![6, 0, v2307.toNat]
def k0_off50 (i : grid0.Coords) : Fin 3 → Nat :=
  let c6_1071 : Index := 6#32
  let c1_1072 : Index := 1#32
  let arg0 : BitVec 32 := BitVec.ofNat 32 (i 0).val
  let v2318 : Index := Scalar.indexCast arg0
  ![6, 1, v2318.toNat]
def k0_off51 (i : grid0.Coords) : Fin 3 → Nat :=
  let c6_1078 : Index := 6#32
  let c2_1079 : Index := 2#32
  let arg0 : BitVec 32 := BitVec.ofNat 32 (i 0).val
  let v2329 : Index := Scalar.indexCast arg0
  ![6, 2, v2329.toNat]
def k0_off52 (i : grid0.Coords) : Fin 3 → Nat :=
  let c6_1085 : Index := 6#32
  let c3_1086 : Index := 3#32
  let arg0 : BitVec 32 := BitVec.ofNat 32 (i 0).val
  let v2340 : Index := Scalar.indexCast arg0
  ![6, 3, v2340.toNat]
def k0_off53 (i : grid0.Coords) : Fin 3 → Nat :=
  let c6_1092 : Index := 6#32
  let c4_1093 : Index := 4#32
  let arg0 : BitVec 32 := BitVec.ofNat 32 (i 0).val
  let v2351 : Index := Scalar.indexCast arg0
  ![6, 4, v2351.toNat]
def k0_off54 (i : grid0.Coords) : Fin 3 → Nat :=
  let c6_1099 : Index := 6#32
  let c5_1100 : Index := 5#32
  let arg0 : BitVec 32 := BitVec.ofNat 32 (i 0).val
  let v2362 : Index := Scalar.indexCast arg0
  ![6, 5, v2362.toNat]
def k0_off55 (i : grid0.Coords) : Fin 3 → Nat :=
  let c6_1106 : Index := 6#32
  let c6_1107 : Index := 6#32
  let arg0 : BitVec 32 := BitVec.ofNat 32 (i 0).val
  let v2373 : Index := Scalar.indexCast arg0
  ![6, 6, v2373.toNat]
def k0_off56 (i : grid0.Coords) : Fin 3 → Nat :=
  let c6_1113 : Index := 6#32
  let c7_1114 : Index := 7#32
  let arg0 : BitVec 32 := BitVec.ofNat 32 (i 0).val
  let v2384 : Index := Scalar.indexCast arg0
  ![6, 7, v2384.toNat]
def k0_off57 (i : grid0.Coords) : Fin 3 → Nat :=
  let c7_1120 : Index := 7#32
  let c0_1121 : Index := 0#32
  let arg0 : BitVec 32 := BitVec.ofNat 32 (i 0).val
  let v2395 : Index := Scalar.indexCast arg0
  ![7, 0, v2395.toNat]
def k0_off58 (i : grid0.Coords) : Fin 3 → Nat :=
  let c7_1127 : Index := 7#32
  let c1_1128 : Index := 1#32
  let arg0 : BitVec 32 := BitVec.ofNat 32 (i 0).val
  let v2406 : Index := Scalar.indexCast arg0
  ![7, 1, v2406.toNat]
def k0_off59 (i : grid0.Coords) : Fin 3 → Nat :=
  let c7_1134 : Index := 7#32
  let c2_1135 : Index := 2#32
  let arg0 : BitVec 32 := BitVec.ofNat 32 (i 0).val
  let v2417 : Index := Scalar.indexCast arg0
  ![7, 2, v2417.toNat]
def k0_off60 (i : grid0.Coords) : Fin 3 → Nat :=
  let c7_1141 : Index := 7#32
  let c3_1142 : Index := 3#32
  let arg0 : BitVec 32 := BitVec.ofNat 32 (i 0).val
  let v2428 : Index := Scalar.indexCast arg0
  ![7, 3, v2428.toNat]
def k0_off61 (i : grid0.Coords) : Fin 3 → Nat :=
  let c7_1148 : Index := 7#32
  let c4_1149 : Index := 4#32
  let arg0 : BitVec 32 := BitVec.ofNat 32 (i 0).val
  let v2439 : Index := Scalar.indexCast arg0
  ![7, 4, v2439.toNat]
def k0_off62 (i : grid0.Coords) : Fin 3 → Nat :=
  let c7_1155 : Index := 7#32
  let c5_1156 : Index := 5#32
  let arg0 : BitVec 32 := BitVec.ofNat 32 (i 0).val
  let v2450 : Index := Scalar.indexCast arg0
  ![7, 5, v2450.toNat]
def k0_off63 (i : grid0.Coords) : Fin 3 → Nat :=
  let c7_1162 : Index := 7#32
  let c6_1163 : Index := 6#32
  let arg0 : BitVec 32 := BitVec.ofNat 32 (i 0).val
  let v2461 : Index := Scalar.indexCast arg0
  ![7, 6, v2461.toNat]
def k0_off64 (i : grid0.Coords) : Fin 3 → Nat :=
  let c7_1169 : Index := 7#32
  let c7_1170 : Index := 7#32
  let arg0 : BitVec 32 := BitVec.ofNat 32 (i 0).val
  let v2472 : Index := Scalar.indexCast arg0
  ![7, 7, v2472.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .smem S8x8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32x8192x1024 : Shape := ⟨3, ![32, 8192, 1024]⟩
abbrev S32x1024x1024 : Shape := ⟨3, ![32, 1024, 1024]⟩
abbrev S32x8x8 : Shape := ⟨3, ![32, 8, 8]⟩
abbrev S32x8192x8 : Shape := ⟨3, ![32, 8192, 8]⟩
abbrev S32x8192x8x128 : Shape := ⟨4, ![32, 8192, 8, 128]⟩
abbrev S32x8192x8x1 : Shape := ⟨4, ![32, 8192, 8, 1]⟩
abbrev S32x8x1x8x1 : Shape := ⟨5, ![32, 8, 1, 8, 1]⟩
abbrev S32x8x128x8x128 : Shape := ⟨5, ![32, 8, 128, 8, 128]⟩

abbrev nBuf : Space → Nat
  | .hbm => 6
  | .vmem => 6
  | .smem => 0
  | _ => 0

abbrev bufTy : (tb : Table) → Fin (tcTables nBuf tb) → BufTy
  | .hbm, ⟨0, _⟩ => ⟨S32x8192x1024, .bf16⟩
  | .hbm, ⟨1, _⟩ => ⟨S32x1024x1024, .fp8e4m3⟩
  | .hbm, ⟨2, _⟩ => ⟨S32x8x8, .f32⟩
  | .hbm, ⟨3, _⟩ => ⟨S32x8192x1024, .bf16⟩
  | .hbm, ⟨4, _⟩ => ⟨S32x8192x1024, .fp8e4m3⟩
  | .hbm, ⟨5, _⟩ => ⟨S32x8192x8, .f32⟩
  | .local _ .vmem, ⟨0, _⟩ => ⟨S32x8192x1024, .bf16⟩
  | .local _ .vmem, ⟨1, _⟩ => ⟨S32x1024x1024, .fp8e4m3⟩
  | .local _ .vmem, ⟨2, _⟩ => ⟨S32x8x8, .f32⟩
  | .local _ .vmem, ⟨3, _⟩ => ⟨S32x8192x1024, .bf16⟩
  | .local _ .vmem, ⟨4, _⟩ => ⟨S32x8192x1024, .fp8e4m3⟩
  | .local _ .vmem, ⟨5, _⟩ => ⟨S32x8192x8, .f32⟩
  | _, _ => ⟨S32x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x8192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x8192x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x8192x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/- The scale of one group of 128 activations: how the kernel finds it (by counting the powers of two that the group's unit
   reaches), how the reference finds it (by the floor of a logarithm), and that both are one power of two. -/
module

public import Idealize.ShloMosaic.PureOps
public import Idealize.ShloMosaic.Lib.Pointwise
public import Mathlib.Analysis.SpecialFunctions.Log.Basic
public import Mathlib.Analysis.SpecialFunctions.Pow.Real

@[expose] public section

set_option maxRecDepth 16384

noncomputable section

namespace Cert.Quant

open Idealize.ShloMosaic

/-- The greatest absolute value among a group's 128 numbers. -/
def absmax (f : Fin 128 → EReal) : EReal :=
  Finset.univ.fold max (Ideal.ofBits .f32 0xFF800000#32) fun x => FloatOps.absf (F := Ideal) (φ := .f32) (f x)

/-- The unit of a group with greatest absolute value `a`: `a` times the f32 nearest to `1/448`. -/
def unitOf (a : EReal) : EReal := a * Ideal.ofBits .f32 0x3B124925#32

/-- Whether lane `x` counts for the unit `m`: the float with exponent field `x` and no fraction is at most `m`, and `x` is
    not zero. -/
def reached (m : EReal) (x : Fin 256) : BitVec 1 :=
  IntOp.andi (BitVec.ofBool (decide (Ideal.ofBits .f32 (IntOp.shli ArithUnit.vector (BitVec.ofNat 32 ↑x) 23#32) ≤ m)))
    (IntOp.cmpi .sgt (BitVec.ofNat 32 ↑x) 0#32)

/-- The sum over the lanes that count, each worth one exponent step. -/
def counted (c : Fin 256 → BitVec 1) : BitVec 32 :=
  Finset.fold IntOp.addi 0#32 (fun x : Fin 256 => Scalar.select (c x) 8388608#32 0#32) Finset.univ

/-- The exponent field the kernel takes from the counted sum: its own for a normal unit, that of one half otherwise. -/
def fieldOf (F : BitVec 32) : BitVec 32 :=
  Scalar.select (IntOp.ori (IntOp.cmpi .eq F 0#32) (IntOp.cmpi .eq F 2139095040#32)) 1056964608#32 F

/-- The kernel's scale for the unit `m`. -/
def scaleOf (m : EReal) : EReal := Ideal.ofBits .f32 (IntOp.addi (fieldOf (counted (reached m))) 8388608#32)

/-- The kernel's inverse scale for the unit `m`. -/
def invOf (m : EReal) : EReal := Ideal.ofBits .f32 (IntOp.subi 2122317824#32 (fieldOf (counted (reached m))))

/-- The reference's exponent for a group whose greatest absolute value is `a`. -/
def expOf (a : EReal) : EReal :=
  Scalar.select (FloatOps.cmpf (F := Ideal) (φ := .f32) .oeq a (Ideal.ofBits .f32 0x00000000#32)) (Ideal.ofBits .f32 0x00000000#32)
    (Ideal.liftRound Int.floor (Ideal.div (Ideal.log (unitOf a)) (Ideal.log (Ideal.ofBits .f32 0x40000000#32)))
      + Ideal.ofBits .f32 0x3F800000#32)

/-- A unit with a normal power of two and a normal inverse: zero, or between the smallest normal f32 and `2^126`. -/
def Normal (m : EReal) : Prop :=
  m = Ideal.ofBits .f32 0x00000000#32 ∨ (Ideal.ofBits .f32 0x00800000#32 ≤ m ∧ m < Ideal.ofBits .f32 0x7E800000#32)

/-! ## Floats with no fraction -/

/-- The three fields of the word `n · 2^23`. -/
theorem word_fields : ∀ n : Fin 255, 1 ≤ n.val →
    (BitVec.ofNat 32 (n.val * 8388608)).extractLsb' 31 1 = 0#1 ∧ ((BitVec.ofNat 32 (n.val * 8388608)).extractLsb' 23 8).toNat = n.val
      ∧ ((BitVec.ofNat 32 (n.val * 8388608)).extractLsb' 0 23).toNat = 0 := by decide +kernel

/-- The word `n · 2^23` read as a float is `2^(n - 127)`, for an exponent field `n` of a normal number. -/
theorem ofBits_word (n : ℕ) (h1 : 1 ≤ n) (h2 : n < 255) :
    Ideal.ofBits .f32 (BitVec.ofNat 32 (n * 8388608)) = (((2 : ℝ) ^ ((n : ℤ) - 127) : ℝ) : EReal) := by
  obtain ⟨hs, he, hf⟩ := word_fields ⟨n, h2⟩ h1
  show Ideal.ieee 8 23 (BitVec.ofNat 32 (n * 8388608)) = _
  unfold Ideal.ieee
  simp only [hs, he, hf]
  have hn : ¬ n = 2 ^ 8 - 1 := by omega
  have hn' : ¬ n = 0 := by omega
  have hb : ¬ ((0#1 : BitVec 1) == 1#1) = true := by decide
  simp only [hn, hn', hb, if_false]
  refine congrArg _ ?_
  have : (2 : ℝ) ^ ((n : ℤ) - (2 ^ (8 - 1) - 1) - (23 : ℕ)) = (2 : ℝ) ^ ((n : ℤ) - 127) * (2 : ℝ) ^ (-23 : ℤ) := by
    rw [← zpow_add₀ (by norm_num)]; congr 1
  rw [this]
  norm_num
  ring

/-- The word with every exponent bit set and no fraction is plus infinity. -/
theorem ofBits_top : Ideal.ofBits .f32 (BitVec.ofNat 32 (255 * 8388608)) = ⊤ := by
  show Ideal.ieee 8 23 (BitVec.ofNat 32 (255 * 8388608)) = ⊤
  unfold Ideal.ieee
  have hs : (BitVec.ofNat 32 (255 * 8388608)).extractLsb' (8 + 23) 1 = 0#1 := by decide +kernel
  have he : ((BitVec.ofNat 32 (255 * 8388608)).extractLsb' 23 8).toNat = 255 := by decide +kernel
  have hf : ((BitVec.ofNat 32 (255 * 8388608)).extractLsb' 0 23).toNat = 0 := by decide +kernel
  simp only [hs, he, hf]
  norm_num

/-- The zero word is zero. -/
theorem ofBits_zero : Ideal.ofBits .f32 0x00000000#32 = 0 := by
  show Ideal.ieee 8 23 0x00000000#32 = 0
  unfold Ideal.ieee
  simp

/-- The f32 one is one. -/
theorem ofBits_one : Ideal.ofBits .f32 0x3F800000#32 = ((1 : ℝ) : EReal) := by
  show Ideal.ofBits .f32 (BitVec.ofNat 32 (127 * 8388608)) = _
  rw [ofBits_word 127 (by omega) (by omega)]
  norm_num

/-- The f32 two is two. -/
theorem ofBits_two : Ideal.ofBits .f32 0x40000000#32 = ((2 : ℝ) : EReal) := by
  show Ideal.ofBits .f32 (BitVec.ofNat 32 (128 * 8388608)) = _
  rw [ofBits_word 128 (by omega) (by omega)]
  norm_num

/-- The f32 nearest to `1/448` is a positive real. -/
theorem ofBits_recip : ∃ r : ℝ, 0 < r ∧ Ideal.ofBits .f32 0x3B124925#32 = (r : EReal) := by
  have hs : (0x3B124925#32).extractLsb' (8 + 23) 1 = 0#1 := by decide +kernel
  have he : ((0x3B124925#32).extractLsb' 23 8).toNat = 118 := by decide +kernel
  refine ⟨(2 ^ 23 + ((0x3B124925#32).extractLsb' 0 23).toNat : ℕ) * (2 : ℝ) ^ (118 - 127 - 23 : ℤ), by positivity, ?_⟩
  show Ideal.ieee 8 23 0x3B124925#32 = _
  unfold Ideal.ieee
  simp only [hs, he]
  rw [if_neg (by norm_num), if_neg (by norm_num), if_neg (by decide)]
  norm_num

/-! ## The integer logarithm -/

/-- The integer part of the logarithm to the base two. -/
def ilog (r : ℝ) : ℤ := ⌊Real.log r / Real.log 2⌋

/-- A power of two is at most `r` exactly when its exponent is at most the integer logarithm of `r`. -/
theorem zpow_le_iff (j : ℤ) (r : ℝ) (hr : 0 < r) : (2 : ℝ) ^ j ≤ r ↔ j ≤ ilog r := by
  have hl : (0 : ℝ) < Real.log 2 := Real.log_pos (by norm_num)
  unfold ilog
  rw [Int.le_floor, le_div_iff₀ hl, ← Real.log_zpow, Real.log_le_log_iff (by positivity) hr]

/-! ## The count -/

/-- The shifted lane number is the word `n · 2^23`, and it is positive exactly off lane zero. -/
theorem lane_word : ∀ x : Fin 256, IntOp.shli ArithUnit.vector (BitVec.ofNat 32 x.val) 23#32 = BitVec.ofNat 32 (x.val * 8388608)
    ∧ IntOp.cmpi .sgt (BitVec.ofNat 32 x.val) 0#32 = BitVec.ofBool (decide (1 ≤ x.val)) := by decide +kernel

/-- Counting the lanes `1 … K` gives the word `K · 2^23`. -/
theorem counted_upto : ∀ K : Fin 256, counted (fun x => BitVec.ofBool (decide (1 ≤ x.val ∧ x.val ≤ K.val))) = BitVec.ofNat 32 (K.val * 8388608) := by
  decide +kernel

/-- The field of a count between 1 and 252 is the count's own; the scale's and the inverse's words. -/
theorem field_words : ∀ K : Fin 253, 1 ≤ K.val →
    IntOp.addi (fieldOf (BitVec.ofNat 32 (K.val * 8388608))) 8388608#32 = BitVec.ofNat 32 ((K.val + 1) * 8388608)
    ∧ IntOp.subi 2122317824#32 (fieldOf (BitVec.ofNat 32 (K.val * 8388608))) = BitVec.ofNat 32 ((253 - K.val) * 8388608) := by
  decide +kernel

/-- A lane counts for the real unit `r` exactly when it is one of the lanes `1 … log₂ r + 127`. -/
theorem reached_real (r : ℝ) (hr : 0 < r) (K : ℕ) (hK : (K : ℤ) = ilog r + 127) :
    reached (r : EReal) = fun x => BitVec.ofBool (decide (1 ≤ x.val ∧ x.val ≤ K ∧ x.val < 255)) := by
  funext x
  unfold reached
  rw [(lane_word x).1, (lane_word x).2]
  have hand : ∀ p q : Bool, IntOp.andi (BitVec.ofBool p) (BitVec.ofBool q) = BitVec.ofBool (p && q) := by decide
  rw [hand]
  congr 1
  rw [Bool.eq_iff_iff]
  simp only [Bool.and_eq_true, decide_eq_true_eq]
  by_cases h1 : 1 ≤ x.val
  · by_cases h2 : x.val < 255
    · rw [ofBits_word _ h1 h2, EReal.coe_le_coe_iff]
      rw [zpow_le_iff _ r hr]
      omega
    · have : x.val = 255 := by omega
      rw [this, ofBits_top]
      simp
  · simp [h1]

/-! ## The two scales are one power of two -/

/-- For a zero unit both sides give the scale one. -/
theorem scale_zero : scaleOf 0 = ((1 : ℝ) : EReal) ∧ invOf 0 = ((1 : ℝ) : EReal) := by
  have h : reached 0 = fun x => BitVec.ofBool (decide (1 ≤ x.val ∧ x.val ≤ (0 : Fin 256).val)) := by
    funext x
    unfold reached
    rw [(lane_word x).1, (lane_word x).2]
    have hand : ∀ p q : Bool, IntOp.andi (BitVec.ofBool p) (BitVec.ofBool q) = BitVec.ofBool (p && q) := by decide
    rw [hand]
    congr 1
    rw [Bool.eq_iff_iff]
    simp only [Bool.and_eq_true, decide_eq_true_eq]
    by_cases h1 : 1 ≤ x.val
    · have h0 : ¬ Ideal.ofBits .f32 (BitVec.ofNat 32 (x.val * 8388608)) ≤ 0 := by
        by_cases h2 : x.val < 255
        · rw [ofBits_word _ h1 h2]
          rw [not_le]
          exact EReal.coe_pos.mpr (by positivity)
        · have : x.val = 255 := by omega
          rw [this, ofBits_top]
          simp
      simp only [h0, false_and, false_iff]
      show ¬ (1 ≤ x.val ∧ x.val ≤ 0)
      omega
    · simp [h1]
  have hw : IntOp.addi (fieldOf (BitVec.ofNat 32 ((0 : Fin 256).val * 8388608))) 8388608#32 = BitVec.ofNat 32 (127 * 8388608)
    ∧ IntOp.subi 2122317824#32 (fieldOf (BitVec.ofNat 32 ((0 : Fin 256).val * 8388608))) = BitVec.ofNat 32 (127 * 8388608) := by
    decide +kernel
  unfold scaleOf invOf
  rw [h, counted_upto, hw.1, hw.2, ofBits_word 127 (by omega) (by omega)]
  norm_num

/-- For a positive unit with logarithm between -126 and 125, the kernel's scale and inverse scale are the powers of two just
    above the unit and its inverse. -/
theorem scale_real (r : ℝ) (hr : 0 < r) (h1 : -126 ≤ ilog r) (h2 : ilog r ≤ 125) :
    scaleOf (r : EReal) = (((2 : ℝ) ^ (ilog r + 1) : ℝ) : EReal) ∧ invOf (r : EReal) = (((2 : ℝ) ^ (-(ilog r + 1)) : ℝ) : EReal) := by
  obtain ⟨K, hK⟩ : ∃ K : ℕ, (K : ℤ) = ilog r + 127 := ⟨(ilog r + 127).toNat, by omega⟩
  have hr' := reached_real r hr K hK
  have hc := counted_upto ⟨K, by omega⟩
  have heq : (fun x : Fin 256 => BitVec.ofBool (decide (1 ≤ x.val ∧ x.val ≤ K ∧ x.val < 255)))
      = fun x => BitVec.ofBool (decide (1 ≤ x.val ∧ x.val ≤ K)) := by
    funext x
    congr 1
    rw [Bool.eq_iff_iff]
    simp only [decide_eq_true_eq]
    omega
  rw [heq] at hr'
  obtain ⟨ha, hb⟩ := field_words ⟨K, by omega⟩ (by show 1 ≤ K; omega)
  unfold scaleOf invOf
  rw [hr', hc, ha, hb, ofBits_word _ (by show 1 ≤ K + 1; omega) (by show K + 1 < 255; omega),
    ofBits_word _ (by show 1 ≤ 253 - K; omega) (by show 253 - K < 255; omega)]
  constructor
  · congr 2
    push_cast
    omega
  · congr 2
    show (((253 - K : ℕ) : ℤ)) - 127 = _
    omega

/-- The reference's exponent of a positive unit is one more than the integer part of its logarithm. -/
theorem expOf_real (a : EReal) (r : ℝ) (hr : 0 < r) (ha : unitOf a = (r : EReal)) :
    expOf a = (((ilog r + 1 : ℤ) : ℝ) : EReal) := by
  have h0 : a ≠ 0 := by
    rintro rfl
    rw [unitOf, zero_mul] at ha
    have : (0 : ℝ) = r := EReal.coe_eq_coe_iff.mp ha
    linarith
  unfold expOf
  have hc : FloatOps.cmpf (F := Ideal) (φ := .f32) .oeq a (Ideal.ofBits .f32 0x00000000#32) = 0#1 := by
    rw [ofBits_zero]
    show Ideal.cmp _ _ _ = _
    simp [Ideal.cmp, h0]
  rw [hc, ha, ofBits_two, ofBits_one]
  show Ideal.liftRound Int.floor (Ideal.div (Ideal.log (r : EReal)) (Ideal.log ((2 : ℝ) : EReal))) + _ = _
  have l1 : Ideal.log (r : EReal) = (Real.log r : EReal) := by
    show (if r ≤ 0 then ⊥ else (Real.log r : EReal)) = _
    rw [if_neg (not_le.mpr hr)]
  have l2 : Ideal.log ((2 : ℝ) : EReal) = (Real.log 2 : EReal) := by
    show (if (2 : ℝ) ≤ 0 then ⊥ else (Real.log 2 : EReal)) = _
    rw [if_neg (by norm_num)]
  have hl : (0 : ℝ) < Real.log 2 := Real.log_pos (by norm_num)
  have hd : Ideal.div (Real.log r : EReal) (Real.log 2 : EReal) = ((Real.log r / Real.log 2 : ℝ) : EReal) := by
    unfold Ideal.div
    rw [if_neg (by rw [EReal.coe_eq_zero]; exact hl.ne'), ← EReal.coe_inv, ← EReal.coe_mul]
    rfl
  rw [l1, l2, hd]
  show (((ilog r : ℤ) : ℝ) : EReal) + ((1 : ℝ) : EReal) = _
  rw [← EReal.coe_add]
  push_cast
  rfl

/-- Two to a real that is an integer. -/
theorem exp2_int (z : ℤ) : Ideal.exp2 (((z : ℤ) : ℝ) : EReal) = (((2 : ℝ) ^ z : ℝ) : EReal) := by
  show ((Real.rpow 2 (z : ℝ) : ℝ) : EReal) = _
  exact congrArg _ (Real.rpow_intCast 2 z)

/-- The kernel's scale and inverse scale are the reference's, for a group whose unit is normal. -/
theorem scale_eq (a : EReal) (h : Normal (unitOf a)) :
    scaleOf (unitOf a) = Ideal.exp2 (expOf a) ∧ invOf (unitOf a) = Ideal.exp2 (Ideal.ofBits .f32 0x00000000#32 - expOf a) := by
  obtain ⟨c, hc0, hc⟩ := ofBits_recip
  rw [ofBits_zero]
  rcases h with h | ⟨h1, h2⟩
  · rw [ofBits_zero] at h
    have ha : a = 0 := by
      unfold unitOf at h
      rw [hc] at h
      rcases mul_eq_zero.mp h with h | h
      · exact h
      · exact absurd (EReal.coe_eq_zero.mp h) hc0.ne'
    subst ha
    have he : expOf 0 = (((0 : ℤ) : ℝ) : EReal) := by
      unfold expOf
      rw [ofBits_zero]
      have hcm : FloatOps.cmpf (F := Ideal) (φ := .f32) .oeq (0 : EReal) (0 : EReal) = 1#1 := by
        show Ideal.cmp _ _ _ = _
        simp [Ideal.cmp]
      rw [hcm]
      simp [Scalar.select]
    have hn : (0 : EReal) - (((0 : ℤ) : ℝ) : EReal) = (((0 : ℤ) : ℝ) : EReal) := by simp
    rw [h, he, hn, exp2_int, scale_zero.1, scale_zero.2]
    simp
  · have b1 : Ideal.ofBits .f32 0x00800000#32 = (((2 : ℝ) ^ (-126 : ℤ) : ℝ) : EReal) := by
      have := ofBits_word 1 (by omega) (by omega)
      norm_num at this ⊢
      exact this
    have b2 : Ideal.ofBits .f32 0x7E800000#32 = (((2 : ℝ) ^ (126 : ℤ) : ℝ) : EReal) := by
      have := ofBits_word 253 (by omega) (by omega)
      norm_num at this ⊢
      exact this
    rw [b1] at h1
    rw [b2] at h2
    obtain ⟨r, hr⟩ : ∃ r : ℝ, unitOf a = (r : EReal) := by
      refine ⟨(unitOf a).toReal, (EReal.coe_toReal ?_ ?_).symm⟩
      · exact (lt_of_lt_of_le h2 le_top).ne
      · exact (lt_of_lt_of_le (EReal.bot_lt_coe _) h1).ne'
    rw [hr, EReal.coe_le_coe_iff] at h1
    rw [hr, EReal.coe_lt_coe_iff] at h2
    have hpos : 0 < r := lt_of_lt_of_le (by positivity) h1
    have k1 : -126 ≤ ilog r := (zpow_le_iff _ r hpos).mp h1
    have k2 : ilog r < 126 := by
      by_contra hk
      exact absurd ((zpow_le_iff 126 r hpos).mpr (by omega)) (not_le.mpr h2)
    obtain ⟨e1, e2⟩ := scale_real r hpos k1 (by omega)
    have he := expOf_real a r hpos hr
    have hn : (0 : EReal) - (((ilog r + 1 : ℤ) : ℝ) : EReal) = (((-(ilog r + 1) : ℤ) : ℝ) : EReal) := by
      rw [zero_sub]
      push_cast
      rfl
    rw [hr, he, hn, exp2_int, exp2_int, e1, e2]
    exact ⟨rfl, rfl⟩

end Cert.Quant

end
-- ==== Proof.Piece.lean ====
/- What the kernel computes for one group of 128 activations, one block of the weight and one band of 256 rows, index by index,
   in terms of the group's scale (Scale.lean). -/
module

public import proofs.«01_k».proof.Proof.Gen.KernelIdeal.Frame
public import proofs.«01_k».proof.Proof.Scale
public import Idealize.ShloMosaic.Lib.Pointwise
public import Idealize.ShloMosaic.Lib.Pipeline.ValueKit

@[expose] public section

set_option maxRecDepth 16384

noncomputable section

namespace Cert.Quant

open Idealize.ShloMosaic

/-- One number of a group quantised: scaled by the inverse scale and clipped to ±448. -/
def codeOf (a x : EReal) : EReal :=
  min (Ideal.ofBits .f32 0x43E00000#32) (max (Ideal.ofBits .f32 0xC3E00000#32) (x * invOf (unitOf a)))

/-- The greatest absolute value of group `g` of a row of 1024 activations. -/
def rowAbs (row : Fin 1024 → EReal) (g : Fin 8) : EReal := absmax fun l => row ⟨g.val * 128 + l.val, by omega⟩

/-- The group that activation `k` of a row belongs to. -/
def groupOf (k : Fin 1024) : Fin 8 := ⟨k.val / 128, by omega⟩

/-- The code of activation `k` of a row. -/
def rowCode (row : Fin 1024 → EReal) (k : Fin 1024) : EReal := codeOf (rowAbs row (groupOf k)) (row k)

/-- The scale of group `g` of a row. -/
def rowScale (row : Fin 1024 → EReal) (g : Fin 8) : EReal := scaleOf (unitOf (rowAbs row g))

/-- Activation `k` of a row after quantising and scaling back. -/
def rowDeq (row : Fin 1024 → EReal) (k : Fin 1024) : EReal := rowCode row k * rowScale row (groupOf k)

end Cert.Quant

namespace Cert.KernelIdeal.Body

open Idealize.ShloMosaic Idealize.ShloMosaic.TcCoe Idealize.SL.Sem Cert.KernelIdeal.Gen Cert.Quant

/-- The row of 256 lane numbers. -/
abbrev lanes : IVec S1x256 32 := iota Kind.tc S1x256 32 [1] iota_S1x256_d1_w32

/-! ## One group of a band of rows -/

/-- The unit of row `r` of a group. -/
theorem unit_at (v : Vec Ideal S1x256x128 .bf16) (r : Fin 256) :
    k0_pay203 v (ix2 r 0) = unitOf (absmax fun l => v (ix3 0 r l)) := by
  pointwise [k0_pay203, k0_pay202]
  rfl

/-- The exponent field the kernel takes for row `r`. -/
theorem field_at (u : FVec Ideal S256x1 .f32) (r : Fin 256) :
    k0_pay204 u lanes (ix2 r 0) = fieldOf (counted (reached (u (ix2 r 0)))) := by
  pointwise [k0_pay204]
  rfl

/-- The scale of row `r`. -/
theorem scale_at (v : Vec Ideal S1x256x128 .bf16) (r : Fin 256) :
    k0_pay205 (k0_pay203 v) lanes (ix2 r 0) = scaleOf (unitOf (absmax fun l => v (ix3 0 r l))) := by
  pointwise [k0_pay205]
  rw [field_at, unit_at]
  rfl

/-- The code at row `r`, lane `l` of a group. -/
theorem code_at (v : Vec Ideal S1x256x128 .bf16) (r : Fin 256) (l : Fin 128) :
    k0_pay207 (k0_pay202 v) (k0_pay203 v) lanes (ix3 0 r l) = codeOf (absmax fun l => v (ix3 0 r l)) (v (ix3 0 r l)) := by
  pointwise [k0_pay207, k0_pay206, k0_pay202]
  rw [field_at, unit_at]
  rfl

/-- The activation at row `r`, lane `l` of a group, quantised and scaled back. -/
theorem deq_at (v : Vec Ideal S1x256x128 .bf16) (r : Fin 256) (l : Fin 128) :
    k0_pay209 (k0_pay208 (k0_pay202 v) (k0_pay203 v) lanes) (ix2 r l)
      = codeOf (absmax fun l => v (ix3 0 r l)) (v (ix3 0 r l)) * scaleOf (unitOf (absmax fun l => v (ix3 0 r l))) := by
  pointwise [k0_pay209, k0_pay208, k0_pay206, k0_pay202]
  rw [field_at, scale_at, unit_at]
  rfl

/-! ## The groups as parts of a block of 1024 rows -/

/-- A group loaded from a block: its number at row `r`, lane `l` is the block's at the group's offset. -/
theorem group_at (x0 : Vec Ideal S1x1024x1024 .bf16) (o1 o2 : ℕ) (inb) (r : Fin 256) (l : Fin 128) (b k : Fin 1024)
    (hb : b.val = o1 + r.val) (hk : k.val = o2 + l.val) :
    View.ld x0 (Rect.unit (s := S1x1024x1024) ![0, o1, o2] ![1, 256, 128] inb) (ix3 0 r l) = x0 (ix3 0 b k) := by
  refine View.ld_unit_apply_of x0 _ _ inb _ _ fun a => ?_
  fin_cases a
  · rfl
  · exact hb
  · exact hk

/-- The greatest absolute value of a loaded group is that of the row's group. -/
theorem group_abs (x0 : Vec Ideal S1x1024x1024 .bf16) (o1 o2 : ℕ) (inb) (r : Fin 256) (b : Fin 1024) (g : Fin 8)
    (hb : b.val = o1 + r.val) (hg : o2 = g.val * 128) :
    (absmax fun l => View.ld x0 (Rect.unit (s := S1x1024x1024) ![0, o1, o2] ![1, 256, 128] inb) (ix3 0 r l))
      = rowAbs (fun k => x0 (ix3 0 b k)) g := by
  unfold rowAbs
  congr 1
  funext l
  exact group_at x0 o1 o2 inb r l b _ hb (by rw [hg])

/-- The codes stored for one group are the codes of the rows. -/
theorem code_piece (x0 : Vec Ideal S1x1024x1024 .bf16) (o1 o2 : ℕ) (inb) (x : S1x256x128.Idx) (y : S1x1024x1024.Idx) (hd : o2 % 128 = 0)
    (h1 : (y 1).val = o1 + (x 1).val) (h2 : (y 2).val = o2 + (x 2).val) :
    k0_pay207 (k0_pay202 (View.ld x0 (Rect.unit (s := S1x1024x1024) ![0, o1, o2] ![1, 256, 128] inb)))
        (k0_pay203 (View.ld x0 (Rect.unit (s := S1x1024x1024) ![0, o1, o2] ![1, 256, 128] inb))) lanes x
      = rowCode (fun k => x0 (ix3 0 (y 1) k)) (y 2) := by
  obtain ⟨p, r, l, rfl⟩ : ∃ p r l, x = ix3 p r l := ⟨_, _, _, eq_ix3 x⟩
  obtain rfl : p = 0 := Subsingleton.elim _ _
  have hl : l.val < 128 := l.isLt
  have hg : o2 = (groupOf (y 2)).val * 128 := by
    show o2 = (y 2).val / 128 * 128
    have : (y 2).val = o2 + l.val := h2
    omega
  rw [code_at, group_abs x0 o1 o2 inb r (y 1) (groupOf (y 2)) h1 hg, group_at x0 o1 o2 inb r l (y 1) (y 2) h1 h2]
  rfl

/-- The scales stored for a band of rows are the scales of the rows. -/
theorem scale_piece (x0 : Vec Ideal S1x1024x1024 .bf16) (o1 : ℕ) (i0 i1 i2 i3 i4 i5 i6 i7) (x : S1x8x256.Idx) (y : S1x8x1024.Idx)
    (h1 : (y 1).val = (x 1).val) (h2 : (y 2).val = o1 + (x 2).val) :
    k0_pay200 (k0_pay205 (k0_pay203 (View.ld x0 (Rect.unit (s := S1x1024x1024) ![0, o1, 0] ![1, 256, 128] i0))) lanes)
        (k0_pay205 (k0_pay203 (View.ld x0 (Rect.unit (s := S1x1024x1024) ![0, o1, 128] ![1, 256, 128] i1))) lanes)
        (k0_pay205 (k0_pay203 (View.ld x0 (Rect.unit (s := S1x1024x1024) ![0, o1, 256] ![1, 256, 128] i2))) lanes)
        (k0_pay205 (k0_pay203 (View.ld x0 (Rect.unit (s := S1x1024x1024) ![0, o1, 384] ![1, 256, 128] i3))) lanes)
        (k0_pay205 (k0_pay203 (View.ld x0 (Rect.unit (s := S1x1024x1024) ![0, o1, 512] ![1, 256, 128] i4))) lanes)
        (k0_pay205 (k0_pay203 (View.ld x0 (Rect.unit (s := S1x1024x1024) ![0, o1, 640] ![1, 256, 128] i5))) lanes)
        (k0_pay205 (k0_pay203 (View.ld x0 (Rect.unit (s := S1x1024x1024) ![0, o1, 768] ![1, 256, 128] i6))) lanes)
        (k0_pay205 (k0_pay203 (View.ld x0 (Rect.unit (s := S1x1024x1024) ![0, o1, 896] ![1, 256, 128] i7))) lanes) x
      = rowScale (fun k => x0 (ix3 0 (y 2) k)) (y 1) := by
  obtain ⟨p, g, r, rfl⟩ : ∃ p g r, x = ix3 p g r := ⟨_, _, _, eq_ix3 x⟩
  obtain rfl : p = 0 := Subsingleton.elim _ _
  have hy : (y 1) = g := Fin.ext h1
  rw [hy]
  have hs : ∀ (g' : Fin 8) (o2 : ℕ) (inb), o2 = g'.val * 128 →
      k0_pay205 (k0_pay203 (View.ld x0 (Rect.unit (s := S1x1024x1024) ![0, o1, o2] ![1, 256, 128] inb))) lanes (ix2 r 0)
        = rowScale (fun k => x0 (ix3 0 (y 2) k)) g' := by
    intro g' o2 inb hg
    rw [scale_at, group_abs x0 o1 o2 inb r (y 2) g' h2 hg]
    rfl
  fin_cases g <;> (pointwise [k0_pay200]; exact hs _ _ _ rfl)

/-! ## One block of the weight -/

/-- A block of the weight scaled by its scale, at row `r`, lane `l`. -/
theorem weight_at (s : Ideal .f32) (b : Vec Ideal S1x128x128 .fp8e4m3) (r l : Fin 128) : k0_pay39 s b (ix2 r l) = b (ix3 0 r l) * s := by
  pointwise [k0_pay39]

/-- The weight of head `h`, every block of 128 × 128 multiplied by its scale. -/
def scaledWeight (w : Vec Ideal S1x1024x1024 .fp8e4m3) (ws : Vec Ideal S8x8x32 .f32) (h : Fin 32) : Vec Ideal S1024x1024 .bf16 :=
  fun y => w (ix3 0 (y 0) (y 1)) * ws (ix3 (groupOf (y 0)) (groupOf (y 1)) h)

/-- A block of the scaled weight, as a part of the whole weight of a head. -/
theorem weight_piece (w : Vec Ideal S1x1024x1024 .fp8e4m3) (ws : Vec Ideal S8x8x32 .f32) (o1 o2 : ℕ) (inb) (off : Fin 3 → ℕ) (inb') (hf : 0 < (Rect.unit (s := S8x8x32) off ![1, 1, 1] inb').shape.numel) (i : grid0.Coords) (h : Fin 32)
    (hh : (Scalar.indexCast (BitVec.ofNat 32 (i 0).val)).toNat = h.val)
    (x : S128x128.Idx) (y : S1024x1024.Idx) (hoff : off = ![o1 / 128, o2 / 128, (Scalar.indexCast (BitVec.ofNat 32 (i 0).val)).toNat]) (hd1 : o1 % 128 = 0) (hd2 : o2 % 128 = 0)
    (h0 : (y 0).val = o1 + (x 0).val) (h1 : (y 1).val = o2 + (x 1).val) :
    k0_pay39 (View.ld ws (Rect.unit (s := S8x8x32) off ![1, 1, 1] inb') (Shape.Idx.first hf))
        (View.ld w (Rect.unit (s := S1x1024x1024) ![0, o1, o2] ![1, 128, 128] inb)) x
      = scaledWeight w ws h y := by
  obtain ⟨r, l, rfl⟩ : ∃ r l, x = ix2 r l := ⟨_, _, eq_ix2 x⟩
  have hr : r.val < 128 := r.isLt
  have hl : l.val < 128 := l.isLt
  have h0' : (y 0).val = o1 + r.val := h0
  have h1' : (y 1).val = o2 + l.val := h1
  rw [weight_at]
  unfold scaledWeight
  congr 1
  · refine View.ld_unit_apply_of w _ _ inb _ _ fun a => ?_
    fin_cases a
    · rfl
    · exact h0
    · exact h1
  · refine View.ld_unit_apply_of ws _ _ inb' _ _ fun a => ?_
    subst hoff
    fin_cases a
    · show (y 0).val / 128 = o1 / 128 + 0
      omega
    · show (y 1).val / 128 = o2 / 128 + 0
      omega
    · exact hh.symm

/-- Reading the whole weight buffer gives what its pieces hold. -/
theorem weight_read (W : Vec Ideal S1024x1024 .bf16) (L : List (View.Piece (Elt Ideal) S1024x1024 .bf16)) (ib) (hL : View.canon L = W) :
    (View.whole cc0_scratch0).readCov (Val := Elt Ideal) L (Rect.unit (s := S1024x1024) ![0, 0] ![1024, 1024] ib).toLoadRect = W := by
  rw [View.readCov_eq_canon']
  subst hL
  funext i
  refine congrArg (View.canon L) (funext fun a => Fin.ext ?_)
  refine (Rect.idx_unit_val _ _ ib i a).trans ?_
  fin_cases a
  · exact Nat.zero_add _
  · exact Nat.zero_add _

/-! ## One band of 256 rows of the product -/

/-- Row `r`, column `n` of the product of a band and the weight. -/
theorem prod_at (a : Vec Ideal S256x1024 .bf16) (b : Vec Ideal S1024x1024 .bf16) (r : Fin 256) (n : Fin 1024) :
    k0_pay201 a b (ix3 0 r n) = ∑ k : Fin 1024, a (ix2 r k) * b (ix2 k n) := by
  pointwise [k0_pay201]

/-- Reading the buffer of scaled-back activations at an index of the band at row `o`: either the newest piece, 128 columns
    at `oc`, holds the index, or the older pieces are read. -/
theorem canon_step (o oc : ℕ) (inb) (P : Vec Ideal S256x128 .bf16) (L : List (View.Piece (Elt Ideal) S1024x1024 .bf16)) (i : S1024x1024.Idx)
    (G : EReal) (h0 : o ≤ (i 0).val ∧ (i 0).val < o + 256)
    (hP : ∀ x : S256x128.Idx, (i 0).val = o + (x 0).val → (i 1).val = oc + (x 1).val → P x = G)
    (hL : ¬ (oc ≤ (i 1).val ∧ (i 1).val < oc + 128) → View.canon L i = G) :
    View.canon (⟨Rect.unit (s := S1024x1024) ![o, oc] ![256, 128] inb, P⟩ :: L) i = G := by
  by_cases hm : oc ≤ (i 1).val ∧ (i 1).val < oc + 128
  · have hx : (Rect.unit (s := S1024x1024) ![o, oc] ![256, 128] inb).emb
        (ix2 (⟨(i 0).val - o, by omega⟩ : Fin 256) (⟨(i 1).val - oc, by omega⟩ : Fin 128)) = i := by
      funext a
      refine Fin.ext ((Rect.idx_unit_val _ _ inb _ a).trans ?_)
      fin_cases a
      · show o + ((i 0).val - o) = (i 0).val
        omega
      · show oc + ((i 1).val - oc) = (i 1).val
        omega
    rw [← hx, View.canon_cons_emb]
    refine hP _ ?_ ?_
    · show (i 0).val = o + ((i 0).val - o)
      omega
    · show (i 1).val = oc + ((i 1).val - oc)
      omega
  · rw [View.canon_cons_of_not_mem, hL hm]
    intro hi
    rw [← Rect.map_emb_univ] at hi
    obtain ⟨x, -, rfl⟩ := Finset.mem_map.mp hi
    apply hm
    have := Rect.idx_unit_val _ _ inb x 1
    have hx : (x 1).val < 128 := (x 1).isLt
    change _ = oc + (x 1).val at this
    change oc ≤ ((Rect.unit (s := S1024x1024) ![o, oc] ![256, 128] inb).idx x 1).val ∧ ((Rect.unit (s := S1024x1024) ![o, oc] ![256, 128] inb).idx x 1).val < oc + 128
    omega

/-- The scaled-back activations stored for one group, at an index of the buffer. -/
theorem deq_piece (x0 : Vec Ideal S1x1024x1024 .bf16) (o1 o2 : ℕ) (inb) (x : S256x128.Idx) (b k : Fin 1024) (hd : o2 % 128 = 0)
    (h0 : b.val = o1 + (x 0).val) (h1 : k.val = o2 + (x 1).val) :
    k0_pay209 (k0_pay208 (k0_pay202 (View.ld x0 (Rect.unit (s := S1x1024x1024) ![0, o1, o2] ![1, 256, 128] inb)))
        (k0_pay203 (View.ld x0 (Rect.unit (s := S1x1024x1024) ![0, o1, o2] ![1, 256, 128] inb))) lanes) x
      = rowDeq (fun k => x0 (ix3 0 b k)) k := by
  obtain ⟨r, l, rfl⟩ : ∃ r l, x = ix2 r l := ⟨_, _, eq_ix2 x⟩
  have hl : l.val < 128 := l.isLt
  have h1' : k.val = o2 + l.val := h1
  have hg : o2 = (groupOf k).val * 128 := by
    show o2 = k.val / 128 * 128
    omega
  rw [deq_at, group_abs x0 o1 o2 inb r b (groupOf k) h0 hg, group_at x0 o1 o2 inb r l b k h0 h1]
  rfl

/-- What a band of the buffer holds after its eight groups were stored. -/
theorem band_at (x0 : Vec Ideal S1x1024x1024 .bf16) (o : ℕ) (i0 i1 i2 i3 i4 i5 i6 i7) (j0 j1 j2 j3 j4 j5 j6 j7)
    (L : List (View.Piece (Elt Ideal) S1024x1024 .bf16)) (b k : Fin 1024) (h0 : o ≤ b.val ∧ b.val < o + 256) :
    let D (o2 : ℕ) (inb) : Vec Ideal S256x128 .bf16 :=
      k0_pay209 (k0_pay208 (k0_pay202 (View.ld x0 (Rect.unit (s := S1x1024x1024) ![0, o, o2] ![1, 256, 128] inb)))
        (k0_pay203 (View.ld x0 (Rect.unit (s := S1x1024x1024) ![0, o, o2] ![1, 256, 128] inb))) lanes)
    View.canon (Val := Elt Ideal) (s := S1024x1024) (e := .bf16) (⟨Rect.unit (s := S1024x1024) ![o, 896] ![256, 128] j7, D 896 i7⟩ :: ⟨Rect.unit (s := S1024x1024) ![o, 768] ![256, 128] j6, D 768 i6⟩
      :: ⟨Rect.unit (s := S1024x1024) ![o, 640] ![256, 128] j5, D 640 i5⟩ :: ⟨Rect.unit (s := S1024x1024) ![o, 512] ![256, 128] j4, D 512 i4⟩
      :: ⟨Rect.unit (s := S1024x1024) ![o, 384] ![256, 128] j3, D 384 i3⟩ :: ⟨Rect.unit (s := S1024x1024) ![o, 256] ![256, 128] j2, D 256 i2⟩
      :: ⟨Rect.unit (s := S1024x1024) ![o, 128] ![256, 128] j1, D 128 i1⟩ :: ⟨Rect.unit (s := S1024x1024) ![o, 0] ![256, 128] j0, D 0 i0⟩ :: L) (ix2 b k)
      = rowDeq (fun k => x0 (ix3 0 b k)) k := by
  intro D
  have hD : ∀ (o2 : ℕ) (inb), o2 % 128 = 0 → ∀ x : S256x128.Idx, b.val = o + (x 0).val → k.val = o2 + (x 1).val →
      D o2 inb x = rowDeq (fun k => x0 (ix3 0 b k)) k := fun o2 inb hd x h0 h1 => deq_piece x0 o o2 inb x b k hd h0 h1
  refine canon_step o 896 j7 _ _ (ix2 b k) _ h0 (hD 896 i7 (by decide)) fun n7 => ?_
  refine canon_step o 768 j6 _ _ (ix2 b k) _ h0 (hD 768 i6 (by decide)) fun n6 => ?_
  refine canon_step o 640 j5 _ _ (ix2 b k) _ h0 (hD 640 i5 (by decide)) fun n5 => ?_
  refine canon_step o 512 j4 _ _ (ix2 b k) _ h0 (hD 512 i4 (by decide)) fun n4 => ?_
  refine canon_step o 384 j3 _ _ (ix2 b k) _ h0 (hD 384 i3 (by decide)) fun n3 => ?_
  refine canon_step o 256 j2 _ _ (ix2 b k) _ h0 (hD 256 i2 (by decide)) fun n2 => ?_
  refine canon_step o 128 j1 _ _ (ix2 b k) _ h0 (hD 128 i1 (by decide)) fun n1 => ?_
  refine canon_step o 0 j0 _ _ (ix2 b k) _ h0 (hD 0 i0 (by decide)) fun n0 => ?_
  have hk : k.val < 1024 := k.isLt
  have e : ((ix2 b k : S1024x1024.Idx) 1).val = k.val := rfl
  rw [e] at n0 n1 n2 n3 n4 n5 n6 n7
  omega

/-- The product stored for one band of rows: the band's scaled-back activations against the weight. -/
theorem prod_piece (x0 : Vec Ideal S1x1024x1024 .bf16) (W : Vec Ideal S1024x1024 .bf16) (o : ℕ) (i0 i1 i2 i3 i4 i5 i6 i7)
    (j0 j1 j2 j3 j4 j5 j6 j7) (L : List (View.Piece (Elt Ideal) S1024x1024 .bf16)) (ib) (x : S1x256x1024.Idx) (y : S1x1024x1024.Idx)
    (h1 : (y 1).val = o + (x 1).val) (h2 : (y 2).val = (x 2).val) :
    let D (o2 : ℕ) (inb) : Vec Ideal S256x128 .bf16 :=
      k0_pay209 (k0_pay208 (k0_pay202 (View.ld x0 (Rect.unit (s := S1x1024x1024) ![0, o, o2] ![1, 256, 128] inb)))
        (k0_pay203 (View.ld x0 (Rect.unit (s := S1x1024x1024) ![0, o, o2] ![1, 256, 128] inb))) lanes)
    k0_pay201 ((View.whole cc0_scratch1).readCov (Val := Elt Ideal)
        (⟨Rect.unit (s := S1024x1024) ![o, 896] ![256, 128] j7, D 896 i7⟩ :: ⟨Rect.unit (s := S1024x1024) ![o, 768] ![256, 128] j6, D 768 i6⟩
      :: ⟨Rect.unit (s := S1024x1024) ![o, 640] ![256, 128] j5, D 640 i5⟩ :: ⟨Rect.unit (s := S1024x1024) ![o, 512] ![256, 128] j4, D 512 i4⟩
      :: ⟨Rect.unit (s := S1024x1024) ![o, 384] ![256, 128] j3, D 384 i3⟩ :: ⟨Rect.unit (s := S1024x1024) ![o, 256] ![256, 128] j2, D 256 i2⟩
      :: ⟨Rect.unit (s := S1024x1024) ![o, 128] ![256, 128] j1, D 128 i1⟩ :: ⟨Rect.unit (s := S1024x1024) ![o, 0] ![256, 128] j0, D 0 i0⟩ :: L)
        (Rect.unit (s := S1024x1024) ![o, 0] ![256, 1024] ib).toLoadRect) W x
      = ∑ k : Fin 1024, rowDeq (fun k => x0 (ix3 0 (y 1) k)) k * W (ix2 k (y 2)) := by
  intro D
  obtain ⟨p, r, n, rfl⟩ : ∃ p r n, x = ix3 p r n := ⟨_, _, _, eq_ix3 x⟩
  obtain rfl : p = 0 := Subsingleton.elim _ _
  have hr : r.val < 256 := r.isLt
  have h1' : (y 1).val = o + r.val := h1
  have hn : y 2 = n := Fin.ext h2
  rw [prod_at, hn]
  refine Finset.sum_congr rfl fun k _ => ?_
  congr 1
  rw [View.readCov_eq_canon']
  have hi : (Rect.unit (s := S1024x1024) ![o, 0] ![256, 1024] ib).idx (ix2 r k) = ix2 (y 1) k := by
    funext a
    refine Fin.ext ((Rect.idx_unit_val _ _ ib _ a).trans ?_)
    fin_cases a
    · exact h1'.symm
    · show 0 + k.val = k.val
      omega
  refine Eq.trans (congrArg _ hi) ?_
  exact band_at x0 o i0 i1 i2 i3 i4 i5 i6 i7 j0 j1 j2 j3 j4 j5 j6 j7 L (y 1) k (by omega)

end Cert.KernelIdeal.Body

end
-- ==== Proof.Block.lean ====
/- What one point of the grid leaves in the three blocks of results and in the weight buffer, in terms of the blocks of
   the arguments it is handed. -/
module

public import proofs.«01_k».proof.Proof.Piece

@[expose] public section

set_option maxRecDepth 200000

noncomputable section

namespace Cert.KernelIdeal.Body

open Idealize.ShloMosaic Idealize.ShloMosaic.TcCoe Idealize.SL.Sem Cert.KernelIdeal.Gen Cert.Quant

variable (m : (ℓ : Loc nD τ sig) → Buf (Elt Ideal) ℓ)

/-! ## A point that starts a head -/

/-- The weight buffer holds the scaled weight of the point's head. -/
theorem weight_A (c : Dev nD) (t : Fin cfg0.N) (h0 : t.val % 8 = 0) (h : Fin 32)
    (hh : (Scalar.indexCast (BitVec.ofNat 32 (grid0.coords t 0).val)).toNat = h.val) :
    (outsAt0 m c t.val t.isLt).2.2.2 = scaledWeight (iblk m c 1 t) (iblk m c 2 t) h := by
  rw [outsAt0_A m c t h0]
  dsimp only
  frame_out
  funext y
  canon_tiles x h
  all_goals exact weight_piece _ _ _ _ _ _ _ _ _ _ hh _ _ rfl (by decide) (by decide) (by omega) (by omega)

/-- The block of the product: the rows quantised and scaled back, against the scaled weight. -/
theorem prod_A (c : Dev nD) (t : Fin cfg0.N) (h0 : t.val % 8 = 0) (h : Fin 32)
    (hh : (Scalar.indexCast (BitVec.ofNat 32 (grid0.coords t 0).val)).toNat = h.val) :
    (outsAt0 m c t.val t.isLt).1 = fun y : S1x1024x1024.Idx => ∑ k : Fin 1024, rowDeq (fun k => iblk m c 0 t (ix3 0 (y 1) k)) k
      * scaledWeight (iblk m c 1 t) (iblk m c 2 t) h (ix2 k (y 2)) := by
  rw [outsAt0_A m c t h0]
  dsimp only
  frame_out
  rw [weight_read (scaledWeight (iblk m c 1 t) (iblk m c 2 t) h) _ _ ?weights]
  case weights =>
    funext y
    canon_tiles x h
    all_goals exact weight_piece _ _ _ _ _ _ _ _ _ _ hh _ _ rfl (by decide) (by decide) (by omega) (by omega)
  funext y
  canon_tiles x h
  all_goals exact prod_piece _ _ _ _ _ _ _ _ _ _ _ _ _ _ _ _ _ _ _ _ _ _ _ (by omega) (by omega)

/-- The block of the codes. -/
theorem codes_A (c : Dev nD) (t : Fin cfg0.N) (h0 : t.val % 8 = 0) :
    (outsAt0 m c t.val t.isLt).2.1 = fun y : S1x1024x1024.Idx => rowCode (fun k => iblk m c 0 t (ix3 0 (y 1) k)) (y 2) := by
  rw [outsAt0_A m c t h0]
  dsimp only
  frame_out
  funext y
  canon_tiles x h
  all_goals exact code_piece _ _ _ _ _ _ (by decide) (by omega) (by omega)

/-- The block of the scales. -/
theorem scales_A (c : Dev nD) (t : Fin cfg0.N) (h0 : t.val % 8 = 0) :
    (outsAt0 m c t.val t.isLt).2.2.1 = fun y : S1x8x1024.Idx => rowScale (fun k => iblk m c 0 t (ix3 0 (y 2) k)) (y 1) := by
  rw [outsAt0_A m c t h0]
  dsimp only
  frame_out
  funext y
  canon_tiles x h
  all_goals exact scale_piece _ _ _ _ _ _ _ _ _ _ _ _ (by omega) (by omega)

/-! ## A point that goes on with a head -/

/-- The weight buffer is as the point before left it. -/
theorem weight_B (c : Dev nD) (t : Fin cfg0.N) (h0 : ¬ t.val % 8 = 0) :
    (outsAt0 m c t.val t.isLt).2.2.2 = (outsAt0 m c (t.val - 1) (Nat.lt_of_le_of_lt (Nat.sub_le ..) t.isLt)).2.2.2 := by
  rw [outsAt0_B m c t h0]
  rfl

/-- The block of the product: the rows quantised and scaled back, against the weight buffer of the point before. -/
theorem prod_B (c : Dev nD) (t : Fin cfg0.N) (h0 : ¬ t.val % 8 = 0) :
    (outsAt0 m c t.val t.isLt).1 = fun y : S1x1024x1024.Idx => ∑ k : Fin 1024, rowDeq (fun k => iblk m c 0 t (ix3 0 (y 1) k)) k
      * (outsAt0 m c (t.val - 1) (Nat.lt_of_le_of_lt (Nat.sub_le ..) t.isLt)).2.2.2 (ix2 k (y 2)) := by
  rw [outsAt0_B m c t h0]
  dsimp only
  frame_out
  rw [(Memref.isWhole_whole _).read_unread]
  funext y
  canon_tiles x h
  all_goals exact prod_piece _ _ _ _ _ _ _ _ _ _ _ _ _ _ _ _ _ _ _ _ _ _ _ (by omega) (by omega)

/-- The block of the codes. -/
theorem codes_B (c : Dev nD) (t : Fin cfg0.N) (h0 : ¬ t.val % 8 = 0) :
    (outsAt0 m c t.val t.isLt).2.1 = fun y : S1x1024x1024.Idx => rowCode (fun k => iblk m c 0 t (ix3 0 (y 1) k)) (y 2) := by
  rw [outsAt0_B m c t h0]
  dsimp only
  frame_out
  funext y
  canon_tiles x h
  all_goals exact code_piece _ _ _ _ _ _ (by decide) (by omega) (by omega)

/-- The block of the scales. -/
theorem scales_B (c : Dev nD) (t : Fin cfg0.N) (h0 : ¬ t.val % 8 = 0) :
    (outsAt0 m c t.val t.isLt).2.2.1 = fun y : S1x8x1024.Idx => rowScale (fun k => iblk m c 0 t (ix3 0 (y 2) k)) (y 1) := by
  rw [outsAt0_B m c t h0]
  dsimp only
  frame_out
  funext y
  canon_tiles x h
  all_goals exact scale_piece _ _ _ _ _ _ _ _ _ _ _ _ (by omega) (by omega)

end Cert.KernelIdeal.Body

end
-- ==== Proof.KernelValue.lean ====
/- The three results of the kernel after its run, index by index, as functions of its arguments. -/
module

public import proofs.«01_k».proof.Proof.Block
public import Idealize.ShloMosaic.Lib.Pipeline.Value

@[expose] public section

set_option maxRecDepth 16384

noncomputable section

namespace Cert.Quant

open Idealize.ShloMosaic Cert.KernelIdeal

/-- The product: row `i 1` of head `i 0`, quantised and scaled back, against column `i 2` of the head's scaled weight. -/
def prodOf (x : Vec Ideal S32x8192x1024 .bf16) (w : Vec Ideal S32x1024x1024 .fp8e4m3) (s : Vec Ideal S32x8x8 .f32) : Vec Ideal S32x8192x1024 .bf16 :=
  fun i => ∑ k : Fin 1024, rowDeq (fun k => x (ix3 (i 0) (i 1) k)) k * (w (ix3 (i 0) k (i 2)) * s (ix3 (i 0) (groupOf k) (groupOf (i 2))))

/-- The codes. -/
def codesOf (x : Vec Ideal S32x8192x1024 .bf16) : Vec Ideal S32x8192x1024 .fp8e4m3 :=
  fun i => rowCode (fun k => x (ix3 (i 0) (i 1) k)) (i 2)

/-- The scales, the group's axis before the row's. -/
def scalesTOf (x : Vec Ideal S32x8192x1024 .bf16) : Vec Ideal S32x8x8192 .f32 :=
  fun i => rowScale (fun k => x (ix3 (i 0) (i 2) k)) (i 1)

/-- The scales. -/
def scalesOf (x : Vec Ideal S32x8192x1024 .bf16) : Vec Ideal S32x8192x8 .f32 :=
  fun i => rowScale (fun k => x (ix3 (i 0) (i 1) k)) (i 2)

end Cert.Quant

namespace Cert.KernelIdeal.Body

open Idealize.ShloMosaic Idealize.ShloMosaic.TcCoe Idealize.SL.Sem Cert.KernelIdeal.Gen Cert.Quant
open Idealize.ShloMosaic.Pipeline (Dat)

variable (m : (ℓ : Loc nD τ sig) → Buf (Elt Ideal) ℓ) (ρ : Dev nD → PrngReg)

/-! ## Where the blocks of a point lie -/

/-- There are 256 points. -/
theorem lt_N (t : Fin cfg0.N) : t.val < 256 := lt_of_lt_of_eq t.isLt N_0

/-- The head a point works on. -/
def head (t : Fin cfg0.N) : Fin 32 := ⟨t.val / 8, by have := lt_N t; omega⟩

/-- Row `r` of a point's block, as a row of the array. -/
def rowOf (t : Fin cfg0.N) (r : Fin 1024) : Fin 8192 := ⟨t.val % 8 * 1024 + r.val, by omega⟩

/-- Which block of the activations a point is handed. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
/-- Which block of the weight a point is handed. -/
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
/-- A point is handed all of the weight scales. -/
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
/-- Which block of the product a point writes. -/
theorem idx3 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, _)
/-- Which block of the codes a point writes. -/
theorem idx4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)
/-- Which block of the scales a point writes. -/
theorem idx5 : ∀ t : Fin cfg0.N, win0_5.index t (0 : Fin 3) = t.val / 8 ∧ win0_5.index t (1 : Fin 3) = 0 ∧ win0_5.index t (2 : Fin 3) = t.val % 8 :=
  (by decide +kernel : ∀ t : Fin grid0.N, _)

/-- The coordinate the scales of the weight are picked by is the head. -/
theorem head_word : ∀ t : Fin cfg0.N, (Scalar.indexCast (BitVec.ofNat 32 (grid0.coords t 0).val)).toNat = t.val / 8 :=
  (by decide +kernel : ∀ t : Fin grid0.N, _)

/-- Where a place of a point's block of activations lies in the array. -/
theorem emb0 (t : Fin cfg0.N) (j : S1x1024x1024.Idx) : ((cfg0.win 0).blk t).view.emb j = ix3 (head t) (rowOf t (j 1)) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val / 8; omega
  | ⟨1, _⟩ => show win0_0.index t (1 : Fin 3) * 1024 + 1 * (j 1).val = t.val % 8 * 1024 + (j 1).val; omega
  | ⟨2, _⟩ => show win0_0.index t (2 : Fin 3) * 1024 + 1 * (j 2).val = (j 2).val; omega

/-- Where a place of a point's block of the weight lies in the array. -/
theorem emb1 (t : Fin cfg0.N) (j : S1x1024x1024.Idx) : ((cfg0.win 1).blk t).view.emb j = ix3 (head t) (j 1) (j 2) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val / 8; omega
  | ⟨1, _⟩ => show win0_1.index t (1 : Fin 3) * 1024 + 1 * (j 1).val = (j 1).val; omega
  | ⟨2, _⟩ => show win0_1.index t (2 : Fin 3) * 1024 + 1 * (j 2).val = (j 2).val; omega

/-- Where a place of the weight scales lies in the array: the same place. -/
theorem emb2 (t : Fin cfg0.N) (j : S8x8x32.Idx) : ((cfg0.win 2).blk t).view.emb j = j := by
  obtain ⟨e0, e1, e2⟩ := idx2 t
  funext a; apply Fin.ext
  match a with
  | ⟨0, _⟩ => show win0_2.index t (0 : Fin 3) * 8 + 1 * (j 0).val = (j 0).val; omega
  | ⟨1, _⟩ => show win0_2.index t (1 : Fin 3) * 8 + 1 * (j 1).val = (j 1).val; omega
  | ⟨2, _⟩ => show win0_2.index t (2 : Fin 3) * 32 + 1 * (j 2).val = (j 2).val; omega

/-- Where a place of a point's block of the product lies in the array. -/
theorem emb3 (t : Fin cfg0.N) (j : S1x1024x1024.Idx) : ((cfg0.win 3).blk t).view.emb j = ix3 (head t) (rowOf t (j 1)) (j 2) := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val / 8; omega
  | ⟨1, _⟩ => show win0_3.index t (1 : Fin 3) * 1024 + 1 * (j 1).val = t.val % 8 * 1024 + (j 1).val; omega
  | ⟨2, _⟩ => show win0_3.index t (2 : Fin 3) * 1024 + 1 * (j 2).val = (j 2).val; omega

/-- Where a place of a point's block of codes lies in the array. -/
theorem emb4 (t : Fin cfg0.N) (j : S1x1024x1024.Idx) : ((cfg0.win 4).blk t).view.emb j = ix3 (head t) (rowOf t (j 1)) (j 2) := by
  obtain ⟨e0, e1, e2⟩ := idx4 t
  have h0 : (j 0).val < 1 := (j 0).isLt
  funext a; apply Fin.ext
  match a with
  | ⟨0, _⟩ => show win0_4.index t (0 : Fin 3) * 1 + 1 * (j 0).val = t.val / 8; omega
  | ⟨1, _⟩ => show win0_4.index t (1 : Fin 3) * 1024 + 1 * (j 1).val = t.val % 8 * 1024 + (j 1).val; omega
  | ⟨2, _⟩ => show win0_4.index t (2 : Fin 3) * 1024 + 1 * (j 2).val = (j 2).val; omega

/-- Where a place of a point's block of scales lies in the array. -/
theorem emb5 (t : Fin cfg0.N) (j : S1x8x1024.Idx) : ((cfg0.win 5).blk t).view.emb j = ix3 (head t) (j 1) (rowOf t (j 2)) := by
  obtain ⟨e0, e1, e2⟩ := idx5 t
  have h0 : (j 0).val < 1 := (j 0).isLt
  funext a; apply Fin.ext
  match a with
  | ⟨0, _⟩ => show win0_5.index t (0 : Fin 3) * 1 + 1 * (j 0).val = t.val / 8; omega
  | ⟨1, _⟩ => show win0_5.index t (1 : Fin 3) * 8 + 1 * (j 1).val = (j 1).val; omega
  | ⟨2, _⟩ => show win0_5.index t (2 : Fin 3) * 1024 + 1 * (j 2).val = t.val % 8 * 1024 + (j 2).val; omega

/-- The block of activations of a point. -/
theorem iblk0_at (c : Dev nD) (t : Fin cfg0.N) (r k : Fin 1024) : iblk m c 0 t (ix3 0 r k) = V m c main_arg0 (ix3 (head t) (rowOf t r) k) := by
  show V m c main_arg0 (((cfg0.win 0).blk t).view.emb (ix3 0 r k)) = _
  rw [emb0]
  rfl

/-- The block of the weight of a point. -/
theorem iblk1_at (c : Dev nD) (t : Fin cfg0.N) (k n : Fin 1024) : iblk m c 1 t (ix3 0 k n) = V m c main_arg1 (ix3 (head t) k n) := by
  show V m c main_arg1 (((cfg0.win 1).blk t).view.emb (ix3 0 k n)) = _
  rw [emb1]
  rfl

/-- The scales of the weight, whole at every point. -/
theorem iblk2_at (c : Dev nD) (t : Fin cfg0.N) (j : S8x8x32.Idx) : iblk m c 2 t j = V m c main_v0 j := by
  show V m c main_v0 (((cfg0.win 2).blk t).view.emb j) = _
  rw [emb2]

/-! ## The weight a point finds in its buffer -/

/-- The scales of the weight reach the kernel with the head's axis moved last. -/
theorem scales_in (c : Dev nD) (p q : Fin 8) (h : Fin 32) : V m c main_v0 (ix3 p q h) = m ((c : Thread nD τ).loc main_arg2) (ix3 h p q) := by
  have e : V m c main_v0 = transpose S8x8x32 [1, 2, 0] (m ((c : Thread nD τ).loc main_arg2)) transposes_S32x8x8_S8x8x32_1_2_0 := by
    exact StableHlo.unary_result (τ := τ) main_arg2 main_v0
      ((transpose S8x8x32 [1, 2, 0] · transposes_S32x8x8_S8x8x32_1_2_0) : (⟨S32x8x8, .f32⟩ : BufTy).Contents (Elt Ideal) → (⟨S8x8x32, .f32⟩ : BufTy).Contents (Elt Ideal))
      (by decide) (by decide) (fun b => m (c, b))
  rw [e]
  pointwise []

/-- The scaled weight of head `h`. -/
def weightOf (w : Vec Ideal S32x1024x1024 .fp8e4m3) (s : Vec Ideal S32x8x8 .f32) (h : Fin 32) : Vec Ideal S1024x1024 .bf16 :=
  fun y => w (ix3 h (y 0) (y 1)) * s (ix3 h (groupOf (y 0)) (groupOf (y 1)))

/-- The weight a point scales block by block is the scaled weight of its head. -/
theorem scaled_at (c : Dev nD) (t : Fin cfg0.N) : scaledWeight (iblk m c 1 t) (iblk m c 2 t) (head t)
    = weightOf (m ((c : Thread nD τ).loc main_arg1)) (m ((c : Thread nD τ).loc main_arg2)) (head t) := by
  funext y
  exact congrArg₂ (fun a b : EReal => a * b) ((iblk1_at m c t (y 0) (y 1)).trans (congrFun (V_main_arg1 m c) _))
    ((iblk2_at m c t _).trans (scales_in m c (groupOf (y 0)) (groupOf (y 1)) (head t)))

/-- After every point the weight buffer holds the scaled weight of the point's head. -/
theorem carried (c : Dev nD) (n : ℕ) : ∀ hn : n < cfg0.N, (outsAt0 m c n hn).2.2.2 = weightOf (m ((c : Thread nD τ).loc main_arg1)) (m ((c : Thread nD τ).loc main_arg2)) (head ⟨n, hn⟩) := by
  induction n using Nat.strong_induction_on with
  | _ n ih =>
    intro hn
    by_cases h0 : n % 8 = 0
    · refine (weight_A m c ⟨n, hn⟩ h0 (head ⟨n, hn⟩) (head_word ⟨n, hn⟩)).trans (scaled_at m c ⟨n, hn⟩)
    · refine (weight_B m c ⟨n, hn⟩ h0).trans ?_
      refine (ih (n - 1) (by omega) _).trans ?_
      congr 1
      exact Fin.ext (show (n - 1) / 8 = n / 8 by omega)

/-- The block of products of a point. -/
theorem prod_block (c : Dev nD) (t : Fin cfg0.N) :
    (outsAt0 m c t.val t.isLt).1 = fun y : S1x1024x1024.Idx => ∑ k : Fin 1024, rowDeq (fun k => iblk m c 0 t (ix3 0 (y 1) k)) k
      * weightOf (m ((c : Thread nD τ).loc main_arg1)) (m ((c : Thread nD τ).loc main_arg2)) (head t) (ix2 k (y 2)) := by
  by_cases h0 : t.val % 8 = 0
  · rw [← carried m c t.val t.isLt, weight_A m c t h0 (head t) (head_word t)]
    exact prod_A m c t h0 (head t) (head_word t)
  · rw [← carried m c t.val t.isLt, weight_B m c t h0]
    exact prod_B m c t h0

/-- The block of codes of a point. -/
theorem codes_block (c : Dev nD) (t : Fin cfg0.N) :
    (outsAt0 m c t.val t.isLt).2.1 = fun y : S1x1024x1024.Idx => rowCode (fun k => iblk m c 0 t (ix3 0 (y 1) k)) (y 2) := by
  by_cases h0 : t.val % 8 = 0
  · exact codes_A m c t h0
  · exact codes_B m c t h0

/-- The block of scales of a point. -/
theorem scales_block (c : Dev nD) (t : Fin cfg0.N) :
    (outsAt0 m c t.val t.isLt).2.2.1 = fun y : S1x8x1024.Idx => rowScale (fun k => iblk m c 0 t (ix3 0 (y 2) k)) (y 1) := by
  by_cases h0 : t.val % 8 = 0
  · exact scales_A m c t h0
  · exact scales_B m c t h0

/-! ## The arrays after the run -/

/-- The row of activations a point reads. -/
theorem row_at (c : Dev nD) (t : Fin cfg0.N) (r : Fin 1024) :
    (fun k : Fin 1024 => iblk m c 0 t (ix3 0 r k)) = fun k => m ((c : Thread nD τ).loc main_arg0) (ix3 (head t) (rowOf t r) k) := by
  funext k
  rw [iblk0_at, V_main_arg0]

/-- The product a point leaves in its block, as part of the whole product. -/
theorem prod_point (c : Dev nD) (t : Fin cfg0.N) (r n : Fin 1024) : (outsAt0 m c t.val t.isLt).1 (ix3 0 r n)
    = prodOf (m ((c : Thread nD τ).loc main_arg0)) (m ((c : Thread nD τ).loc main_arg1)) (m ((c : Thread nD τ).loc main_arg2)) (ix3 (head t) (rowOf t r) n) := by
  rw [prod_block]
  show (∑ k : Fin 1024, rowDeq (fun k => iblk m c 0 t (ix3 0 r k)) k
    * weightOf (m ((c : Thread nD τ).loc main_arg1)) (m ((c : Thread nD τ).loc main_arg2)) (head t) (ix2 k n)) = _
  rw [row_at]
  rfl

/-- The codes a point leaves in its block, as part of all codes. -/
theorem codes_point (c : Dev nD) (t : Fin cfg0.N) (r n : Fin 1024) : (outsAt0 m c t.val t.isLt).2.1 (ix3 0 r n)
    = codesOf (m ((c : Thread nD τ).loc main_arg0)) (ix3 (head t) (rowOf t r) n) := by
  rw [codes_block]
  show rowCode (fun k => iblk m c 0 t (ix3 0 r k)) n = _
  rw [row_at]
  rfl

/-- The scales a point leaves in its block, as part of all scales. -/
theorem scales_point (c : Dev nD) (t : Fin cfg0.N) (g : Fin 8) (r : Fin 1024) : (outsAt0 m c t.val t.isLt).2.2.1 (ix3 0 g r)
    = scalesTOf (m ((c : Thread nD τ).loc main_arg0)) (ix3 (head t) g (rowOf t r)) := by
  rw [scales_block]
  show rowScale (fun k => iblk m c 0 t (ix3 0 r k)) g = _
  rw [row_at]
  rfl

/-- A block that agrees with an array index by index is what is read of the array at a point, for output window 3. -/
theorem cut3 (t : Fin cfg0.N) (X : Vec Ideal S1x1024x1024 .bf16) (G : Vec Ideal S32x8192x1024 .bf16) (h : ∀ r n, X (ix3 0 r n) = G (ix3 (head t) (rowOf t r) n)) :
    (cfg0.win 3).cut (grid0.coords t) X = ((cfg0.win 3).blk t).view.read (Elt Ideal) G := by
  refine funext fun (j : S1x1024x1024.Idx) => ?_
  show X j = G (((cfg0.win 3).blk t).view.emb j)
  obtain ⟨p, r, n, rfl⟩ : ∃ p r n, j = ix3 p r n := ⟨_, _, _, eq_ix3 j⟩
  obtain rfl : p = 0 := Subsingleton.elim _ _
  rw [emb3]
  exact h r n

/-- What a point writes back of the product is that part of the whole product. -/
theorem flushed3 (c : Dev nD) (t : Fin cfg0.N) : (dats m 0 c).flushed 3 t = ((cfg0.win 3).blk t).view.read (Elt Ideal)
    (prodOf (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  exact cut3 t _ _ (prod_point m c t)

/-- A block that agrees with an array index by index is what is read of the array at a point, for output window 4. -/
theorem cut4 (t : Fin cfg0.N) (X : Vec Ideal S1x1024x1024 .fp8e4m3) (G : Vec Ideal S32x8192x1024 .fp8e4m3) (h : ∀ r n, X (ix3 0 r n) = G (ix3 (head t) (rowOf t r) n)) :
    (cfg0.win 4).cut (grid0.coords t) X = ((cfg0.win 4).blk t).view.read (Elt Ideal) G := by
  refine funext fun (j : S1x1024x1024.Idx) => ?_
  show X j = G (((cfg0.win 4).blk t).view.emb j)
  obtain ⟨p, r, n, rfl⟩ : ∃ p r n, j = ix3 p r n := ⟨_, _, _, eq_ix3 j⟩
  obtain rfl : p = 0 := Subsingleton.elim _ _
  rw [emb4]
  exact h r n

/-- What a point writes back of the codes is that part of all codes. -/
theorem flushed4 (c : Dev nD) (t : Fin cfg0.N) : (dats m 0 c).flushed 4 t = ((cfg0.win 4).blk t).view.read (Elt Ideal)
    (codesOf (m ((c : Thread nD τ).loc main_arg0))) := by
  show (cfg0.win 4).cut (grid0.coords t) ((dats m 0 c).after 4 t) = _
  rw [after0_4]
  exact cut4 t _ _ (codes_point m c t)

/-- A block that agrees with an array index by index is what is read of the array at a point, for output window 5. -/
theorem cut5 (t : Fin cfg0.N) (X : Vec Ideal S1x8x1024 .f32) (G : Vec Ideal S32x8x8192 .f32) (h : ∀ g r, X (ix3 0 g r) = G (ix3 (head t) g (rowOf t r))) :
    (cfg0.win 5).cut (grid0.coords t) X = ((cfg0.win 5).blk t).view.read (Elt Ideal) G := by
  refine funext fun (j : S1x8x1024.Idx) => ?_
  show X j = G (((cfg0.win 5).blk t).view.emb j)
  obtain ⟨p, g, r, rfl⟩ : ∃ p g r, j = ix3 p g r := ⟨_, _, _, eq_ix3 j⟩
  obtain rfl : p = 0 := Subsingleton.elim _ _
  rw [emb5]
  exact h g r

/-- What a point writes back of the scales is that part of all scales. -/
theorem flushed5 (c : Dev nD) (t : Fin cfg0.N) : (dats m 0 c).flushed 5 t = ((cfg0.win 5).blk t).view.read (Elt Ideal)
    (scalesTOf (m ((c : Thread nD τ).loc main_arg0))) := by
  show (cfg0.win 5).cut (grid0.coords t) ((dats m 0 c).after 5 t) = _
  rw [after0_5]
  exact cut5 t _ _ (scales_point m c t)

/-- The point whose blocks hold row `r` of head `h`. -/
def pointOf (h : Fin 32) (r : Fin 8192) : Fin cfg0.N := ⟨h.val * 8 + r.val / 1024, by rw [show cfg0.N = 256 from N_0]; omega⟩

/-- The row inside the block. -/
def inBlock (r : Fin 8192) : Fin 1024 := ⟨r.val % 1024, by omega⟩

/-- The head of the point that holds row `r` of head `h` is `h`. -/
theorem head_pointOf (h : Fin 32) (r : Fin 8192) : head (pointOf h r) = h :=
  Fin.ext (show (h.val * 8 + r.val / 1024) / 8 = h.val by omega)

/-- Row `r`'s place in its block is row `r` of the array. -/
theorem rowOf_pointOf (h : Fin 32) (r : Fin 8192) : rowOf (pointOf h r) (inBlock r) = r :=
  Fin.ext (show (h.val * 8 + r.val / 1024) % 8 * 1024 + r.val % 1024 = r.val by omega)

/-- Every place of the product is written by some point. -/
theorem covered3 (i : S32x8192x1024.Idx) : ∃ t : Fin cfg0.N, (cfg0.win 3).flush t = true ∧ i ∈ ((cfg0.win 3).blk t).view.set := by
  obtain ⟨h, r, n, rfl⟩ : ∃ h r n, i = ix3 h r n := ⟨_, _, _, eq_ix3 i⟩
  refine ⟨pointOf h r, flush0_3 _, ?_⟩
  have hm := ((cfg0.win 3).blk (pointOf h r)).view.emb_mem_set (ix3 0 (inBlock r) n : S1x1024x1024.Idx)
  have e : ((cfg0.win 3).blk (pointOf h r)).view.emb (ix3 0 (inBlock r) n : S1x1024x1024.Idx) = (ix3 h r n : S32x8192x1024.Idx) :=
    (emb3 (pointOf h r) (ix3 0 (inBlock r) n)).trans
      (show (ix3 (head (pointOf h r)) (rowOf (pointOf h r) (inBlock r)) n : S32x8192x1024.Idx) = ix3 h r n by rw [head_pointOf, rowOf_pointOf])
  rwa [e] at hm

/-- Every place of the codes is written by some point. -/
theorem covered4 (i : S32x8192x1024.Idx) : ∃ t : Fin cfg0.N, (cfg0.win 4).flush t = true ∧ i ∈ ((cfg0.win 4).blk t).view.set := by
  obtain ⟨h, r, n, rfl⟩ : ∃ h r n, i = ix3 h r n := ⟨_, _, _, eq_ix3 i⟩
  refine ⟨pointOf h r, flush0_4 _, ?_⟩
  have hm := ((cfg0.win 4).blk (pointOf h r)).view.emb_mem_set (ix3 0 (inBlock r) n : S1x1024x1024.Idx)
  have e : ((cfg0.win 4).blk (pointOf h r)).view.emb (ix3 0 (inBlock r) n : S1x1024x1024.Idx) = (ix3 h r n : S32x8192x1024.Idx) :=
    (emb4 (pointOf h r) (ix3 0 (inBlock r) n)).trans
      (show (ix3 (head (pointOf h r)) (rowOf (pointOf h r) (inBlock r)) n : S32x8192x1024.Idx) = ix3 h r n by rw [head_pointOf, rowOf_pointOf])
  rwa [e] at hm

/-- Every place of the scales is written by some point. -/
theorem covered5 (i : S32x8x8192.Idx) : ∃ t : Fin cfg0.N, (cfg0.win 5).flush t = true ∧ i ∈ ((cfg0.win 5).blk t).view.set := by
  obtain ⟨h, g, r, rfl⟩ : ∃ h g r, i = ix3 h g r := ⟨_, _, _, eq_ix3 i⟩
  refine ⟨pointOf h r, flush0_5 _, ?_⟩
  have hm := ((cfg0.win 5).blk (pointOf h r)).view.emb_mem_set (ix3 0 g (inBlock r) : S1x8x1024.Idx)
  have e : ((cfg0.win 5).blk (pointOf h r)).view.emb (ix3 0 g (inBlock r) : S1x8x1024.Idx) = (ix3 h g r : S32x8x8192.Idx) :=
    (emb5 (pointOf h r) (ix3 0 g (inBlock r))).trans
      (show (ix3 (head (pointOf h r)) g (rowOf (pointOf h r) (inBlock r)) : S32x8x8192.Idx) = ix3 h g r by rw [head_pointOf, rowOf_pointOf])
  rwa [e] at hm

/-- After the grid, the array of the product. -/
theorem final3 (c : Dev nD) : (dats m 0 c).arrAt 3 cfg0.N
    = prodOf (m ((c : Thread nD τ).loc main_arg0)) (m ((c : Thread nD τ).loc main_arg1)) (m ((c : Thread nD τ).loc main_arg2)) :=
  (dats m 0 c).arrAt_eq_of_cover 3 _ (fun t _ => flushed3 m c t) covered3

/-- After the grid, the array of the codes. -/
theorem final4 (c : Dev nD) : (dats m 0 c).arrAt 4 cfg0.N = codesOf (m ((c : Thread nD τ).loc main_arg0)) :=
  (dats m 0 c).arrAt_eq_of_cover 4 _ (fun t _ => flushed4 m c t) covered4

/-- After the grid, the array of the scales, the group before the row. -/
theorem final5 (c : Dev nD) : (dats m 0 c).arrAt 5 cfg0.N = scalesTOf (m ((c : Thread nD τ).loc main_arg0)) :=
  (dats m 0 c).arrAt_eq_of_cover 5 _ (fun t _ => flushed5 m c t) covered5

/-- The transposed scales the kernel returns. -/
theorem tail_scales (c : Dev nD) :
    Pipeline.afterTail₀ cfgs (dats m) 0 (V0 m) [hostOps1] c main_v2 = scalesOf (m ((c : Thread nD τ).loc main_arg0)) := by
  have e : ∀ X : Valuation τ sig (Elt Ideal), StableHlo.after (List.flatten [hostOps1]) X (Proc.devRef .tc main_v2)
      = transpose S32x8192x8 [0, 2, 1] (X (Proc.devRef .tc main_v1_2)) transposes_S32x8x8192_S32x8192x8_0_2_1 := by
    intro X
    exact StableHlo.unary_result (τ := τ) main_v1_2 main_v2
      ((transpose S32x8192x8 [0, 2, 1] · transposes_S32x8x8192_S32x8192x8_0_2_1) : (⟨S32x8x8192, .f32⟩ : BufTy).Contents (Elt Ideal) → (⟨S32x8192x8, .f32⟩ : BufTy).Contents (Elt Ideal))
      (by decide) (by decide) X
  have e5 : (Pipeline.withArrays spec0 c (V0 m c) fun w => (dats m 0 c).arrAt w cfg0.N) (Proc.devRef .tc main_v1_2)
      = scalesTOf (m ((c : Thread nD τ).loc main_arg0)) :=
    (Pipeline.withArrays_arr spec0 (by decide) c (V0 m c) (fun w => (dats m 0 c).arrAt w cfg0.N) 5).trans (final5 m c)
  unfold Pipeline.afterTail₀
  refine (e _).trans ((congrArg (transpose S32x8192x8 [0, 2, 1] · transposes_S32x8x8192_S32x8192x8_0_2_1) e5).trans ?_)
  funext i
  obtain ⟨h, r, g, rfl⟩ : ∃ h r g, i = ix3 h r g := ⟨_, _, _, eq_ix3 i⟩
  pointwise []
  rfl

/-- The run of the kernel: every result at its function of the arguments, the arguments unchanged. -/
theorem run : θ_run defs (onTc (τ := τ) (main (F := Ideal))) ⟨m, fun _ => 0, ρ⟩ fun r => ∀ c : Dev nD,
      r.2.mem ((c : Thread nD τ).loc main_v1_0) = prodOf (m ((c : Thread nD τ).loc main_arg0)) (m ((c : Thread nD τ).loc main_arg1)) (m ((c : Thread nD τ).loc main_arg2))
      ∧ r.2.mem ((c : Thread nD τ).loc main_v1_1) = codesOf (m ((c : Thread nD τ).loc main_arg0))
      ∧ r.2.mem ((c : Thread nD τ).loc main_v2) = scalesOf (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 3).trans (final3 m c), ((h c).1 4).trans (final4 m c),
      ((h c).2 main_v2 (Pipeline.mem_restRefs_of main_v2 (by decide) (by decide))).trans (tail_scales m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Body

end
-- ==== Proof.RefValue.lean ====
/- The three results of the reference after its run, first as the operations it applies to its arguments, then index by
   index. -/
module

public import proofs.«01_k».proof.Proof.Gen.ReferenceIdeal.Frame
public import proofs.«01_k».proof.Proof.Scale
public import Idealize.ShloMosaic.Lib.Pipeline.Value
public import Idealize.ShloMosaic.Lib.Pointwise
public import Idealize.ShloMosaic.Lib.Pipeline.ValueKit

@[expose] public section

set_option maxRecDepth 16384

noncomputable section

namespace Cert.ReferenceIdeal.Body

open Cert.ReferenceIdeal Cert.ReferenceIdeal.Gen Idealize.ShloMosaic Idealize.ShloMosaic.TcCoe Idealize.SL.Sem
open Idealize.ShloMosaic.Pipeline (Dat)

section AnyFloats

variable {F : FTy → Type} [FloatOps F]
variable (m : (ℓ : Loc nD τ sig) → Buf (Elt F) ℓ) (ρ : Dev nD → PrngReg)

/-! ## The arrays after the run -/

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Every block is its whole array -/

/-- Three zeros are the zero offsets. -/
theorem hz : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S32x8192x1024.Idx) : ((cfg0.win 0).blk t).view.emb j = j := by
  obtain ⟨e0, e1, e2⟩ := idx_zero0 t
  funext a; apply Fin.ext
  match a with
  | ⟨0, _⟩ => show win0_0.index t (0 : Fin 3) * 32 + 1 * (j 0).val = (j 0).val; omega
  | ⟨1, _⟩ => show win0_0.index t (1 : Fin 3) * 8192 + 1 * (j 1).val = (j 1).val; omega
  | ⟨2, _⟩ => show win0_0.index t (2 : Fin 3) * 1024 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S32x1024x1024.Idx) : ((cfg0.win 1).blk t).view.emb j = j := by
  obtain ⟨e0, e1, e2⟩ := idx_zero1 t
  funext a; apply Fin.ext
  match a with
  | ⟨0, _⟩ => show win0_1.index t (0 : Fin 3) * 32 + 1 * (j 0).val = (j 0).val; omega
  | ⟨1, _⟩ => show win0_1.index t (1 : Fin 3) * 1024 + 1 * (j 1).val = (j 1).val; omega
  | ⟨2, _⟩ => show win0_1.index t (2 : Fin 3) * 1024 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S32x8x8.Idx) : ((cfg0.win 2).blk t).view.emb j = j := by
  obtain ⟨e0, e1, e2⟩ := idx_zero2 t
  funext a; apply Fin.ext
  match a with
  | ⟨0, _⟩ => show win0_2.index t (0 : Fin 3) * 32 + 1 * (j 0).val = (j 0).val; omega
  | ⟨1, _⟩ => show win0_2.index t (1 : Fin 3) * 8 + 1 * (j 1).val = (j 1).val; omega
  | ⟨2, _⟩ => show win0_2.index t (2 : Fin 3) * 8 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S32x8192x1024.Idx) : ((cfg0.win 3).blk t).view.emb j = j := by
  obtain ⟨e0, e1, e2⟩ := idx_zero3 t
  funext a; apply Fin.ext
  match a with
  | ⟨0, _⟩ => show win0_3.index t (0 : Fin 3) * 32 + 1 * (j 0).val = (j 0).val; omega
  | ⟨1, _⟩ => show win0_3.index t (1 : Fin 3) * 8192 + 1 * (j 1).val = (j 1).val; omega
  | ⟨2, _⟩ => show win0_3.index t (2 : Fin 3) * 1024 + 1 * (j 2).val = (j 2).val; omega

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S32x8192x1024.Idx) : ((cfg0.win 4).blk t).view.emb j = j := by
  obtain ⟨e0, e1, e2⟩ := idx_zero4 t
  funext a; apply Fin.ext
  match a with
  | ⟨0, _⟩ => show win0_4.index t (0 : Fin 3) * 32 + 1 * (j 0).val = (j 0).val; omega
  | ⟨1, _⟩ => show win0_4.index t (1 : Fin 3) * 8192 + 1 * (j 1).val = (j 1).val; omega
  | ⟨2, _⟩ => show win0_4.index t (2 : Fin 3) * 1024 + 1 * (j 2).val = (j 2).val; omega

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S32x8192x8.Idx) : ((cfg0.win 5).blk t).view.emb j = j := by
  obtain ⟨e0, e1, e2⟩ := idx_zero5 t
  funext a; apply Fin.ext
  match a with
  | ⟨0, _⟩ => show win0_5.index t (0 : Fin 3) * 32 + 1 * (j 0).val = (j 0).val; omega
  | ⟨1, _⟩ => show win0_5.index t (1 : Fin 3) * 8192 + 1 * (j 1).val = (j 1).val; omega
  | ⟨2, _⟩ => show win0_5.index t (2 : Fin 3) * 8 + 1 * (j 2).val = (j 2).val; omega

/-! ### Output window 3: the array after the run -/

/-- What the window's array ends holding: `out0_3` applied to the argument arrays in place of the input blocks (a value that the
    frame states apart, `kK_payN a…`, keeps its loads inside its own definition). -/
abbrev G3 (a0 : Vec F S32x8192x1024 .bf16) (a1 : Vec F S32x1024x1024 .fp8e4m3) (a2 : Vec F S32x8x8 .f32) : Vec F S32x8192x1024 .bf16 :=
  k0_pay1 (k0_pay7 a0) a1 (k0_pay8 a2)

/-- A load of the whole of a block reads the block, and the one store through the whole rectangle leaves its payload. -/
theorem out3_eq (a0 : Vec F S32x8192x1024 .bf16) (a1 : Vec F S32x1024x1024 .fp8e4m3) (a2 : Vec F S32x8x8 .f32) : out0_3 (F := F) a0 a1 a2 = G3 a0 a1 a2 := by
  unfold out0_3
  rw [View.canon_unit_zero hz, View.ld_unit_zero (S := S32x8192x1024) hz _ a0, View.ld_unit_zero (S := S32x1024x1024) hz _ a1, View.ld_unit_zero (S := S32x8x8) hz _ a2]

/-- Cutting the point's block out of `X` and reading `X` through the block's view give the same. -/
theorem cut3_eq (t : Fin cfg0.N) (X : Vec F S32x8192x1024 .bf16) :
    (cfg0.win 3).cut (grid0.coords t) X = ((cfg0.win 3).blk t).view.read (Elt F) X := by
  funext j
  show X j = X (((cfg0.win 3).blk t).view.emb j)
  rw [emb3]

/-- What the point writes back is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S32x8192x1024.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- The array after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S32x8192x1024 .bf16) (a1 : Vec F S32x1024x1024 .fp8e4m3) (a2 : Vec F S32x8x8 .f32) : Vec F S32x8192x1024 .fp8e4m3 :=
  k0_pay2 (k0_pay6 a0)

/-- A load of the whole of a block reads the block, and the one store through the whole rectangle leaves its payload. -/
theorem out4_eq (a0 : Vec F S32x8192x1024 .bf16) (a1 : Vec F S32x1024x1024 .fp8e4m3) (a2 : Vec F S32x8x8 .f32) : out0_4 (F := F) a0 a1 a2 = G4 a0 a1 a2 := by
  unfold out0_4
  rw [View.canon_unit_zero hz, View.ld_unit_zero (S := S32x8192x1024) hz _ a0]

/-- Cutting the point's block out of `X` and reading `X` through the block's view give the same. -/
theorem cut4_eq (t : Fin cfg0.N) (X : Vec F S32x8192x1024 .fp8e4m3) :
    (cfg0.win 4).cut (grid0.coords t) X = ((cfg0.win 4).blk t).view.read (Elt F) X := by
  funext j
  show X j = X (((cfg0.win 4).blk t).view.emb j)
  rw [emb4]

/-- What the point writes back is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S32x8192x1024.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- The array after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S32x8192x1024 .bf16) (a1 : Vec F S32x1024x1024 .fp8e4m3) (a2 : Vec F S32x8x8 .f32) : Vec F S32x8192x8 .f32 :=
  k0_pay5 a0

/-- A load of the whole of a block reads the block, and the one store through the whole rectangle leaves its payload. -/
theorem out5_eq (a0 : Vec F S32x8192x1024 .bf16) (a1 : Vec F S32x1024x1024 .fp8e4m3) (a2 : Vec F S32x8x8 .f32) : out0_5 (F := F) a0 a1 a2 = G5 a0 a1 a2 := by
  unfold out0_5
  rw [View.canon_unit_zero hz, View.ld_unit_zero (S := S32x8192x1024) hz _ a0]

/-- Cutting the point's block out of `X` and reading `X` through the block's view give the same. -/
theorem cut5_eq (t : Fin cfg0.N) (X : Vec F S32x8192x8 .f32) :
    (cfg0.win 5).cut (grid0.coords t) X = ((cfg0.win 5).blk t).view.read (Elt F) X := by
  funext j
  show X j = X (((cfg0.win 5).blk t).view.emb j)
  rw [emb5]

/-- What the point writes back is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S32x8192x8.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- The array after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      kept_main_arg0 m r h c,
      kept_main_arg1 m r h c,
      kept_main_arg2 m r h c⟩)
    (run_main m ρ)

end AnyFloats

/-! ## The operations, index by index -/

open Cert.Quant

/-- The greatest absolute value of every group. -/
def ga (v : Vec Ideal S32x8192x1024 .bf16) : FVec Ideal S32x8192x8 .f32 :=
  multiReduction .maximumf [3] S32x8192x8 (absf (k0_pay3 v)) 0xFF800000#32 reduces_S32x8192x8x128_S32x8192x8 (.inl rfl) rfl

/-- The greatest absolute value of one group. -/
theorem ga_at (v : Vec Ideal S32x8192x1024 .bf16) (h : Fin 32) (t : Fin 8192) (g : Fin 8) :
    ga v (ix3 h t g) = absmax fun l => v (ix3 h t ⟨g.val * 128 + l.val, by omega⟩) := by
  pointwise [ga, k0_pay3]
  rfl

/-- The exponent of a group's scale, for any values of the constants. -/
theorem exp_gen (a : FVec Ideal S32x8192x8 .f32) (c0 c1 c2 c3 c4 : Ideal .f32) (i : S32x8192x8.Idx) :
    select (cmpf .oeq a (broadcast S32x8192x8 c0)) (broadcast S32x8192x8 c4)
        (addf (floor (divf (log (mulf a (broadcast S32x8192x8 c1))) (log (broadcast S32x8192x8 c2)))) (broadcast S32x8192x8 c3)) i
      = Scalar.select (FloatOps.cmpf .oeq (a i) c0) c4
        (FloatOps.addf (FloatOps.floor (FloatOps.divf (FloatOps.log (FloatOps.mulf (a i) c1)) (FloatOps.log c2))) c3) := rfl

/-- The exponent of a group's scale. -/
theorem exp_at (v : Vec Ideal S32x8192x1024 .bf16) (i : S32x8192x8.Idx) : k0_pay4 v i = expOf (ga v i) :=
  exp_gen (ga v) _ _ _ _ _ i

/-- A power of two of every element, for any elements. -/
theorem exp2_gen (e : FVec Ideal S32x8192x8 .f32) (i : S32x8192x8.Idx) : exp2 e i = Ideal.exp2 (e i) := rfl

/-- The scale of a group. -/
theorem scale_at (v : Vec Ideal S32x8192x1024 .bf16) (i : S32x8192x8.Idx) : k0_pay5 v i = Ideal.exp2 (expOf (ga v i)) := by
  unfold k0_pay5
  exact (exp2_gen (k0_pay4 v) i).trans (congrArg Ideal.exp2 (exp_at v i))

/-- A number per group repeated along the group. -/
theorem repeat_at (v : FVec Ideal S32x8192x8 .f32) (h : Fin 32) (t : Fin 8192) (g : Fin 8) (l : Fin 128) :
    broadcastTo S32x8192x8x128 (shapeCast S32x8192x8x1 v shapeCasts_S32x8192x8_S32x8192x8x1) broadcasts_S32x8192x8x1_S32x8192x8x128 (ix4 h t g l)
      = v (ix3 h t g) := by
  pointwise []

/-- An activation by its group and its place in it. -/
theorem grouped_at (v : Vec Ideal S32x8192x1024 .bf16) (h : Fin 32) (t : Fin 8192) (g : Fin 8) (l : Fin 128) :
    k0_pay3 v (ix4 h t g l) = v (ix3 h t ⟨g.val * 128 + l.val, by omega⟩) := by
  pointwise [k0_pay3]

/-- The inverse scale of a group, for any exponents. -/
theorem inv_gen (e : FVec Ideal S32x8192x8 .f32) (c : Ideal .f32) (i : S32x8192x8.Idx) :
    exp2 (subf (broadcast S32x8192x8 c) e) i = Ideal.exp2 (c - e i) := rfl

/-- A code, by its group and its place in it. -/
theorem code_grouped (v : Vec Ideal S32x8192x1024 .bf16) (h : Fin 32) (t : Fin 8192) (g : Fin 8) (l : Fin 128) :
    k0_pay6 v (ix4 h t g l) = min (Ideal.ofBits .f32 0x43E00000#32) (max (Ideal.ofBits .f32 0xC3E00000#32)
      (v (ix3 h t ⟨g.val * 128 + l.val, by omega⟩) * Ideal.exp2 (Ideal.ofBits .f32 0x00000000#32 - expOf (ga v (ix3 h t g))))) := by
  show min (Ideal.ofBits .f32 0x43E00000#32) (max (Ideal.ofBits .f32 0xC3E00000#32) (k0_pay3 v (ix4 h t g l)
    * broadcastTo S32x8192x8x128 (shapeCast S32x8192x8x1 (exp2 (subf (broadcast S32x8192x8 (Scalar.ofBits .f32 0x00000000#32)) (k0_pay4 v)))
      shapeCasts_S32x8192x8_S32x8192x8x1) broadcasts_S32x8192x8x1_S32x8192x8x128 (ix4 h t g l))) = _
  rw [repeat_at, inv_gen, exp_at, grouped_at]
  rfl

/-- The group that column `k` of a row belongs to. -/
def grp (k : Fin 1024) : Fin 8 := ⟨k.val / 128, by omega⟩

/-- The place of column `k` in its group. -/
def lane (k : Fin 1024) : Fin 128 := ⟨k.val % 128, by omega⟩

/-- The codes, by row and column. -/
theorem code_at (v : Vec Ideal S32x8192x1024 .bf16) (h : Fin 32) (t : Fin 8192) (k : Fin 1024) :
    k0_pay2 (k0_pay6 v) (ix3 h t k) = min (Ideal.ofBits .f32 0x43E00000#32) (max (Ideal.ofBits .f32 0xC3E00000#32)
      (v (ix3 h t k) * Ideal.exp2 (Ideal.ofBits .f32 0x00000000#32 - expOf (ga v (ix3 h t (grp k)))))) := by
  have e : k0_pay2 (k0_pay6 v) (ix3 h t k) = k0_pay6 v (ix4 h t (grp k) (lane k)) := by
    pointwise [k0_pay2]
    rfl
  rw [e, code_grouped]
  have ek : (⟨(grp k).val * 128 + (lane k).val, by have := (grp k).isLt; have := (lane k).isLt; omega⟩ : Fin 1024) = k :=
    Fin.ext (show k.val / 128 * 128 + k.val % 128 = k.val by omega)
  rw [ek]

/-- The activations quantised and scaled back. -/
theorem deq_at (v : Vec Ideal S32x8192x1024 .bf16) (h : Fin 32) (t : Fin 8192) (k : Fin 1024) :
    k0_pay7 v (ix3 h t k) = k0_pay2 (k0_pay6 v) (ix3 h t k) * Ideal.exp2 (expOf (ga v (ix3 h t (grp k)))) := by
  have e2 : k0_pay2 (k0_pay6 v) (ix3 h t k) = k0_pay6 v (ix4 h t (grp k) (lane k)) := by
    pointwise [k0_pay2]
    rfl
  have e : k0_pay7 v (ix3 h t k) = k0_pay6 v (ix4 h t (grp k) (lane k)) * k0_pay5 v (ix3 h t (grp k)) := by
    pointwise [k0_pay7]
    rfl
  rw [e, e2, scale_at]

/-- The product. -/
theorem prod_at (a : Vec Ideal S32x8192x1024 .bf16) (w : Vec Ideal S32x1024x1024 .fp8e4m3) (s : Vec Ideal S32x8x8 .f32) (h : Fin 32) (t : Fin 8192) (n : Fin 1024) :
    k0_pay1 (k0_pay7 a) w (k0_pay8 s) (ix3 h t n) = ∑ k : Fin 1024, k0_pay7 a (ix3 h t k) * (w (ix3 h k n) * s (ix3 h (grp k) (grp n))) := by
  pointwise [k0_pay1, k0_pay8]
  rfl

end Cert.ReferenceIdeal.Body

end
-- ==== Proof.Pre.lean ====
/- What the precondition says of each group: its unit is zero or normal with a normal inverse. -/
module

public import proofs.«01_k».proof.Pre_scales_are_normal
public import proofs.«01_k».proof.Proof.Piece
public import Idealize.ShloMosaic.Lib.KernelVsHost
public import Idealize.ShloMosaic.Lib.Pointwise

@[expose] public section

set_option maxRecDepth 16384

noncomputable section

namespace Cert.Pre_scales_are_normal

open Idealize.ShloMosaic Cert.Quant

/-- The facts about shapes that the precondition states. -/
instance facts : Facts where
  bitsLt_bf16_f32 := by decide
  shapeCasts_S32x8192x1024_S32x8192x8x128 := by decide
  reducesTo_S32x8192x8x128_S32x8192x8_d3 := by decide
  h_S_ := by decide
  bcast_S_S32x8192x8 := by decide
  reducesTo_S32x8192x8_S_d0_1_2 := by decide

/-- A conjunction of bits, one after the other, is one only where every bit is. -/
theorem foldl_andi {ι : Type} (f : ι → BitVec 1) : ∀ (l : List ι) (b : BitVec 1),
    l.foldl (fun r i => IntOp.andi r (f i)) b = 1#1 → b = 1#1 ∧ ∀ i ∈ l, f i = 1#1
  | [], b, h => ⟨h, fun _ hi => absurd hi (by simp)⟩
  | i :: l, b, h => by
    obtain ⟨h1, h2⟩ := foldl_andi f l _ h
    have h3 : ∀ x y : BitVec 1, x &&& y = 1#1 → x = 1#1 ∧ y = 1#1 := by decide
    obtain ⟨h4, h5⟩ := h3 _ _ h1
    exact ⟨h4, by
      intro k hk
      rcases List.mem_cons.mp hk with e | e
      · exact e ▸ h5
      · exact h2 k e⟩

/-- A conjunction of all elements is one only where every element is. -/
theorem all_of_reduce {s t u : Shape} {axes : List (Fin s.rank)} (x : s.Idx → BitVec 1) (init : u.Idx → BitVec 1) (h : s.ReducesTo axes t)
    (hu : 0 < u.numel) (ht : ∀ a b : t.Idx, a = b) (j : t.Idx) (e : Host.reduce IntOp.andi x init h hu j = 1#1) (i : s.Idx) : x i = 1#1 := by
  rw [Host.reduce_eq_foldl] at e
  exact (foldl_andi x _ _ e).2 i (List.mem_filter.mpr
    ⟨List.mem_map.mpr ⟨s.rowMajor i, List.mem_finRange _, s.rowMajor.symm_apply_apply i⟩, by simpa using ht _ _⟩)

/-- The bit of one group, read as a statement. -/
theorem bit_normal (m c0 c1 c2 : Ideal .f32) (h : IntOp.ori (FloatOps.cmpf .oeq m c0) (IntOp.andi (FloatOps.cmpf .oge m c1) (FloatOps.cmpf .olt m c2)) = 1#1) :
    m = c0 ∨ (c1 ≤ m ∧ m < c2) := by
  have h3 : ∀ p q r : Bool, BitVec.ofBool p ||| (BitVec.ofBool q &&& BitVec.ofBool r) = 1#1 → p = true ∨ (q = true ∧ r = true) := by decide
  have h4 := h3 (decide (m = c0)) (decide (c1 ≤ m)) (decide (m < c2)) h
  simpa using h4

/-- The bits of all groups at one group, for any units and constants. -/
theorem bits_at (a : FVec Ideal S32x8192x8 .f32) (b b0 b1 b2 : BitVec 32) (hb : S_.BroadcastsInDim S32x8192x8 (![] : Fin 0 → Fin S32x8192x8.rank)) (i : S32x8192x8.Idx) :
    ori (cmpf .oeq (mulf a (broadcastInDim S32x8192x8 ![] hb (constant S_ .f32 b))) (broadcastInDim S32x8192x8 ![] hb (constant S_ .f32 b0)))
      (andi (cmpf .oge (mulf a (broadcastInDim S32x8192x8 ![] hb (constant S_ .f32 b))) (broadcastInDim S32x8192x8 ![] hb (constant S_ .f32 b1)))
        (cmpf .olt (mulf a (broadcastInDim S32x8192x8 ![] hb (constant S_ .f32 b))) (broadcastInDim S32x8192x8 ![] hb (constant S_ .f32 b2)))) i
      = IntOp.ori (FloatOps.cmpf (F := Ideal) .oeq (FloatOps.mulf (a i) (FloatOps.ofBits .f32 b)) (FloatOps.ofBits .f32 b0))
          (IntOp.andi (FloatOps.cmpf (F := Ideal) .oge (FloatOps.mulf (a i) (FloatOps.ofBits .f32 b)) (FloatOps.ofBits .f32 b1))
            (FloatOps.cmpf (F := Ideal) .olt (FloatOps.mulf (a i) (FloatOps.ofBits .f32 b)) (FloatOps.ofBits .f32 b2))) := rfl

/-- The activations in groups of 128, their absolute values. -/
def grouped (x : FVec Ideal S32x8192x1024 .bf16) : FVec Ideal S32x8192x8x128 .f32 :=
  Host.absf (shapeCast S32x8192x8x128 (extf .f32 x Facts.bitsLt_bf16_f32) Facts.shapeCasts_S32x8192x1024_S32x8192x8x128)

/-- The greatest absolute value of a group, as the precondition computes it. -/
theorem greatest_at (x : FVec Ideal S32x8192x1024 .bf16) (h : Fin 32) (t : Fin 8192) (g : Fin 8) :
    Host.reduce FloatOps.maximumf (grouped x) (constant S_ .f32 0xFF800000#32) Facts.reducesTo_S32x8192x8x128_S32x8192x8_d3 Facts.h_S_ (ix3 h t g)
      = rowAbs (fun k => x (ix3 h t k)) g := by
  rw [hostReduce_maximumf_eq_multiReduction (grouped x) 0xFF800000#32 _ _ (by decide) (.inl rfl) rfl]
  pointwise [grouped]
  rfl

/-- Under the precondition the unit of every group is zero or normal with a normal inverse. -/
theorem normal_of_pre (x : FVec Ideal S32x8192x1024 .bf16) (w : FVec Ideal S32x1024x1024 .fp8e4m3) (s : FVec Ideal S32x8x8 .f32)
    (hp : fn (F := Ideal) x w s = fun _ => 1#1) (h : Fin 32) (t : Fin 8192) (g : Fin 8) : Normal (unitOf (rowAbs (fun k => x (ix3 h t k)) g)) := by
  have e := congrFun hp (Shape.Idx.first Facts.h_S_)
  unfold fn at e
  have e1 := all_of_reduce _ _ _ _ (fun a b => funext fun k => k.elim0) _ e (ix3 h t g)
  have e2 := (bits_at _ _ _ _ _ _ _).symm.trans e1
  have e3 := bit_normal _ _ _ _ e2
  have eg := greatest_at x h t g
  unfold grouped at eg
  beta_reduce at e3
  rw [eg] at e3
  unfold Normal unitOf
  exact e3

end Cert.Pre_scales_are_normal

end
-- ==== Proof.Equal.lean ====
/- The kernel's results are the reference's, where every group's unit is zero or normal with a normal inverse. -/
module

public import proofs.«01_k».proof.Proof.KernelValue
public import proofs.«01_k».proof.Proof.RefValue

@[expose] public section

set_option maxRecDepth 16384

noncomputable section

namespace Cert.Quant

open Idealize.ShloMosaic Cert.ReferenceIdeal Cert.ReferenceIdeal.Body Cert.ReferenceIdeal.Gen

variable (x : Vec Ideal S32x8192x1024 .bf16) (w : Vec Ideal S32x1024x1024 .fp8e4m3) (s : Vec Ideal S32x8x8 .f32)

/-- Every group's unit is zero or normal with a normal inverse. -/
def AllNormal : Prop := ∀ (h : Fin 32) (t : Fin 8192) (g : Fin 8), Normal (unitOf (rowAbs (fun k => x (ix3 h t k)) g))

/-- A group's greatest absolute value, in the reference and in the kernel. -/
theorem ga_eq (h : Fin 32) (t : Fin 8192) (g : Fin 8) : ga x (ix3 h t g) = rowAbs (fun k => x (ix3 h t k)) g := ga_at x h t g

variable {x} (hx : AllNormal x)
include hx

/-- The scales agree at every group. -/
theorem scale_agree (h : Fin 32) (t : Fin 8192) (g : Fin 8) :
    rowScale (fun k => x (ix3 h t k)) g = Ideal.exp2 (expOf (ga x (ix3 h t g))) := by
  rw [ga_eq]
  exact (scale_eq _ (hx h t g)).1

/-- The codes agree at every place. -/
theorem code_agree (h : Fin 32) (t : Fin 8192) (k : Fin 1024) :
    rowCode (fun k => x (ix3 h t k)) k = k0_pay2 (k0_pay6 x) (ix3 h t k) := by
  rw [code_at, ga_eq]
  unfold rowCode codeOf
  rw [(scale_eq _ (hx h t (groupOf k))).2]
  rfl

/-- The activations scaled back agree at every place. -/
theorem deq_agree (h : Fin 32) (t : Fin 8192) (k : Fin 1024) :
    rowDeq (fun k => x (ix3 h t k)) k = k0_pay7 x (ix3 h t k) := by
  rw [deq_at]
  unfold rowDeq
  rw [code_agree hx, scale_agree hx]
  rfl

/-- The product, at a row and a column. -/
theorem prod_agree (h : Fin 32) (t : Fin 8192) (n : Fin 1024) : prodOf x w s (ix3 h t n) = G3 x w s (ix3 h t n) := by
  refine Eq.trans ?_ (prod_at x w s h t n).symm
  refine Finset.sum_congr rfl fun k _ => ?_
  rw [← deq_agree hx]
  rfl

/-- The codes are the reference's. -/
theorem codes_eq : codesOf x = G4 x w s := by
  funext i
  obtain ⟨h, t, n, rfl⟩ : ∃ h t n, i = ix3 h t n := ⟨i 0, i 1, i 2, eq_ix3 i⟩
  exact code_agree hx h t n

/-- The scales are the reference's. -/
theorem scales_eq : scalesOf x = G5 x w s := by
  funext i
  obtain ⟨h, t, n, rfl⟩ : ∃ h t n, i = ix3 h t n := ⟨i 0, i 1, i 2, eq_ix3 i⟩
  exact (scale_agree hx h t n).trans (scale_at x _).symm

/-- The product is the reference's. -/
theorem prod_eq : prodOf x w s = G3 x w s := by
  funext i
  obtain ⟨h, t, n, rfl⟩ : ∃ h t n, i = ix3 h t n := ⟨i 0, i 1, i 2, eq_ix3 i⟩
  exact prod_agree w s hx h t n

end Cert.Quant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.RefValue
public import proofs.«01_k».proof.Proof.Pre
public import proofs.«01_k».proof.Proof.Equal
public import Idealize.ShloMosaic.Adequacy
public import Idealize.ShloMosaic.Init

@[expose] public section

noncomputable section

namespace Cert.Proof

open Idealize.ShloMosaic Idealize.SL.Sem Cert.Quant

/-- From memories that agree on the arguments, under the precondition, the kernel and the reference end with equal results. -/
theorem algebraic : Cert.algebraic_KernelIdeal_ReferenceIdeal_pre_scales_are_normal := by
  intro m g m' g' hp hagree
  have hx : ∀ c : Dev Cert.KernelIdeal.nD, AllNormal (m ((c.tc : Thread Cert.KernelIdeal.nD Cert.KernelIdeal.τ).loc Cert.KernelIdeal.main_arg0)) :=
    fun c => Cert.Pre_scales_are_normal.normal_of_pre _ _ _ (hp c)
  refine ⟨_, _, _, Cert.KernelIdeal.Body.run m g, (θ_run Cert.ReferenceIdeal.defs _ _).mono (fun r h c => ?_) (Cert.ReferenceIdeal.Body.run m' g')⟩
  obtain ⟨h0, h1, h2, k0, k1, k2⟩ := h c
  obtain ⟨e0, e1, e2⟩ := hagree c
  rw [e0, e1, e2] at h0 h1 h2
  exact ⟨h0.trans (prod_eq _ _ (hx c)).symm, h1.trans (codes_eq _ _ (hx c)).symm, h2.trans (scales_eq _ _ (hx c)).symm, k0, k1, k2⟩

/-- Everything the certificate claims. -/
theorem claim : Cert.Claim := ⟨Cert.Kernel.Gen.facts, Cert.KernelIdeal.Gen.facts, Cert.ReferenceIdeal.Gen.facts, Cert.Pre_scales_are_normal.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
